-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v5_0) = v1 c
          ∧ r.2.mem ((c.tc : Thread Cert.ReferenceIdeal.nD Cert.ReferenceIdeal.τ).loc Cert.ReferenceIdeal.main_v5_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x768x3328 : Shape := ⟨3, ![3, 768, 3328]⟩
abbrev S3328x1280 : Shape := ⟨2, ![3328, 1280]⟩
abbrev S1280 : Shape := ⟨1, ![1280]⟩
abbrev S256x256 : Shape := ⟨2, ![256, 256]⟩
abbrev S2304x3328 : Shape := ⟨2, ![2304, 3328]⟩
abbrev S1x1280 : Shape := ⟨2, ![1, 1280]⟩
abbrev S2304x1280 : Shape := ⟨2, ![2304, 1280]⟩
abbrev S2304x1 : Shape := ⟨2, ![2304, 1]⟩
abbrev S256x3328 : Shape := ⟨2, ![256, 3328]⟩
abbrev S256x1280 : Shape := ⟨2, ![256, 1280]⟩
abbrev S256x1 : Shape := ⟨2, ![256, 1]⟩
abbrev S256 : Shape := ⟨1, ![256]⟩
abbrev S256x1024 : Shape := ⟨2, ![256, 1024]⟩
abbrev S1024x1280 : Shape := ⟨2, ![1024, 1280]⟩

abbrev nBuf : Space → Nat
  | .hbm => 9
  | .vmem => 13
  | .smem => 0
  | _ => 0

abbrev bufTy : (tb : Table) → Fin (tcTables nBuf tb) → BufTy
  | .hbm, ⟨0, _⟩ => ⟨S3x768x3328, .bf16⟩
  | .hbm, ⟨1, _⟩ => ⟨S3328x1280, .i8⟩
  | .hbm, ⟨2, _⟩ => ⟨S1280, .f32⟩
  | .hbm, ⟨3, _⟩ => ⟨S256x256, .bf16⟩
  | .hbm, ⟨4, _⟩ => ⟨S2304x3328, .bf16⟩
  | .hbm, ⟨5, _⟩ => ⟨S1x1280, .f32⟩
  | .hbm, ⟨6, _⟩ => ⟨S2304x1280, .bf16⟩
  | .hbm, ⟨7, _⟩ => ⟨S2304x3328, .i8⟩
  | .hbm, ⟨8, _⟩ => ⟨S2304x1, .f32⟩
  | .local _ .vmem, ⟨0, _⟩ => ⟨S256x3328, .bf16⟩
  | .local _ .vmem, ⟨1, _⟩ => ⟨S256x3328, .bf16⟩
  | .local _ .vmem, ⟨2, _⟩ => ⟨S256x256, .bf16⟩
  | .local _ .vmem, ⟨3, _⟩ => ⟨S3328x1280, .i8⟩
  | .local _ .vmem, ⟨4, _⟩ => ⟨S1x1280, .f32⟩
  | .local _ .vmem, ⟨5, _⟩ => ⟨S256x1280, .bf16⟩
  | .local _ .vmem, ⟨6, _⟩ => ⟨S256x1280, .bf16⟩
  | .local _ .vmem, ⟨7, _⟩ => ⟨S256x3328, .i8⟩
  | .local _ .vmem, ⟨8, _⟩ => ⟨S256x3328, .i8⟩
  | .local _ .vmem, ⟨9, _⟩ => ⟨S256x1, .f32⟩
  | .local _ .vmem, ⟨10, _⟩ => ⟨S256x1, .f32⟩
  | .local _ .vmem, ⟨11, _⟩ => ⟨S256x3328, .f32⟩
  | .local _ .vmem, ⟨12, _⟩ => ⟨S256x1280, .i32⟩
  | _, _ => ⟨S3x768x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3328 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x768x3328 : Shape := ⟨3, ![3, 768, 3328]⟩
abbrev S3328x1280 : Shape := ⟨2, ![3328, 1280]⟩
abbrev S1280 : Shape := ⟨1, ![1280]⟩
abbrev S128x128 : Shape := ⟨2, ![128, 128]⟩
abbrev S3x768x26x128 : Shape := ⟨4, ![3, 768, 26, 128]⟩
abbrev S2304x3328 : Shape := ⟨2, ![2304, 3328]⟩
abbrev S2304x1 : Shape := ⟨2, ![2304, 1]⟩
abbrev S2304 : Shape := ⟨1, ![2304]⟩
abbrev S2304x3328x1 : Shape := ⟨3, ![2304, 3328, 1]⟩
abbrev S1x3328x1280 : Shape := ⟨3, ![1, 3328, 1280]⟩
abbrev S2304x3328x1280 : Shape := ⟨3, ![2304, 3328, 1280]⟩
abbrev S_ : Shape := ⟨0, ![]⟩
abbrev S2304x1280 : Shape := ⟨2, ![2304, 1280]⟩
abbrev S1x1280 : Shape := ⟨2, ![1, 1280]⟩

abbrev nBuf : Space → Nat
  | .hbm => 27
  | .vmem => 3
  | .smem => 0
  | _ => 0

abbrev bufTy : (tb : Table) → Fin (tcTables nBuf tb) → BufTy
  | .hbm, ⟨0, _⟩ => ⟨S3x768x3328, .bf16⟩
  | .hbm, ⟨1, _⟩ => ⟨S3328x1280, .i8⟩
  | .hbm, ⟨2, _⟩ => ⟨S1280, .f32⟩
  | .hbm, ⟨3, _⟩ => ⟨S128x128, .f32⟩
  | .hbm, ⟨4, _⟩ => ⟨S3x768x3328, .f32⟩
  | .hbm, ⟨5, _⟩ => ⟨S3x768x26x128, .f32⟩
  | .hbm, ⟨6, _⟩ => ⟨S3x768x26x128, .f32⟩
  | .hbm, ⟨7, _⟩ => ⟨S3x768x3328, .f32⟩
  | .hbm, ⟨8, _⟩ => ⟨S2304x3328, .f32⟩
  | .hbm, ⟨9, _⟩ => ⟨S2304x3328, .i8⟩
  | .hbm, ⟨10, _⟩ => ⟨S2304x1, .f32⟩
  | .hbm, ⟨11, _⟩ => ⟨S2304x3328, .i32⟩
  | .hbm, ⟨12, _⟩ => ⟨S2304x3328x1, .i32⟩
  | .hbm, ⟨13, _⟩ => ⟨S3328x1280, .i32⟩
  | .hbm, ⟨14, _⟩ => ⟨S1x3328x1280, .i32⟩
  | .hbm, ⟨15, _⟩ => ⟨S2304x3328x1280, .i32⟩
  | .hbm, ⟨16, _⟩ => ⟨S2304x3328x1280, .i32⟩
  | .hbm, ⟨17, _⟩ => ⟨S2304x3328x1280, .i32⟩
  | .hbm, ⟨18, _⟩ => ⟨S_, .i32⟩
  | .hbm, ⟨19, _⟩ => ⟨S2304x1280, .i32⟩
  | .hbm, ⟨20, _⟩ => ⟨S2304x1280, .f32⟩
  | .hbm, ⟨21, _⟩ => ⟨S2304x1280, .f32⟩
  | .hbm, ⟨22, _⟩ => ⟨S2304x1280, .f32⟩
  | .hbm, ⟨23, _⟩ => ⟨S1x1280, .f32⟩
  | .hbm, ⟨24, _⟩ => ⟨S2304x1280, .f32⟩
  | .hbm, ⟨25, _⟩ => ⟨S2304x1280, .f32⟩
  | .hbm, ⟨26, _⟩ => ⟨S2304x1280, .bf16⟩
  | .local _ .vmem, ⟨0, _⟩ => ⟨S2304x3328, .f32⟩
  | .local _ .vmem, ⟨1, _⟩ => ⟨S2304x3328, .i8⟩
  | .local _ .vmem, ⟨2, _⟩ => ⟨S2304x1, .f32⟩
  | _, _ => ⟨S3x768x3328, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2304x3328 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x3328 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Quant.lean ====
/- The per-token quantiser of one row, as one function of the row's numbers: the row's largest magnitude, the scale made
   from it, and the code of one number. Both programs quantise with these; they divide by the scale in two ways. -/
module

public import Idealize.ShloMosaic.PureOps.Ideal
public import Idealize.ShloMosaic.PureOps.Ideal.Laws
public import Idealize.ShloMosaic.Lib.IdealHost

@[expose] public section

noncomputable section

namespace Cert.Quarot

open Idealize.ShloMosaic

/-- The largest magnitude of a row (−∞ for a row of no entries). -/
def rowSup {n : Nat} (f : Fin n → EReal) : EReal := Finset.univ.sup fun k => max (f k) (-(f k))

/-- The scale of a row whose largest magnitude is `a`: one for a row of zeros, else `a` times the word of 1/127. -/
def scaleOf (a : EReal) : EReal :=
  Scalar.select (FloatOps.cmpf (F := Ideal) (φ := .f32) .oeq a (FloatOps.ofBits .f32 0x00000000#32))
    (FloatOps.ofBits (F := Ideal) .f32 0x3F800000#32)
    (FloatOps.mulf (F := Ideal) (φ := .f32) a (FloatOps.ofBits .f32 0x3C010204#32))

/-- The code of a scaled number: rounded to the nearest integer (ties to even), kept within ±127, as an 8-bit word. -/
def codeOf (t : EReal) : BitVec 8 :=
  FloatOps.fptosi (F := Ideal) (φ := .f32) 8 (FloatOps.minimumf (FloatOps.ofBits .f32 0x42FE0000#32)
    (FloatOps.maximumf (FloatOps.ofBits .f32 0xC2FE0000#32) (FloatOps.roundeven (F := Ideal) (φ := .f32) t)))

/-! ## One row of each result, from the rotated row -/

/-- A row's scale. -/
def rowScale {n : Nat} (v : Fin n → EReal) : EReal := scaleOf (rowSup v)

/-- A row's code at one column: the entry divided by the row's scale, rounded and kept within ±127. -/
def rowCode {n : Nat} (v : Fin n → EReal) (j : Fin n) : BitVec 8 :=
  codeOf (FloatOps.divf (F := Ideal) (φ := .f32) (v j) (rowScale v))

/-- The word of the exact integer product of a row's codes with one column of weights. -/
def rowAcc {n : Nat} (v : Fin n → EReal) (w : Fin n → BitVec 8) : BitVec 32 :=
  BitVec.ofInt 32 (∑ k : Fin n, (rowCode v k).toInt * (w k).toInt)

/-- An output entry: the integer product as a number, times the row's scale, times the column's scale. -/
def rowOut {n : Nat} (v : Fin n → EReal) (w : Fin n → BitVec 8) (sw : EReal) : EReal :=
  FloatOps.mulf (F := Ideal) (φ := .f32) (FloatOps.mulf (F := Ideal) (φ := .f32) (FloatOps.sitofp .f32 (rowAcc v w)) (rowScale v)) sw

/-! ## Facts about them -/

/-- The words of ±127 are ±127. -/
theorem ofBits_127 : Ideal.ofBits .f32 0x42FE0000#32 = ((127 : ℝ) : EReal) := by
  rw [EReal.coe_eq_coe_iff.mpr (show (127 : ℝ) = (1 * (2 ^ 23 + 0x7E0000 : Nat) * (2 : ℝ) ^ ((133 : Int) - 127 - 23)) by norm_num)]
  simp [Ideal.ofBits, Ideal.ieee]

theorem ofBits_neg_127 : Ideal.ofBits .f32 0xC2FE0000#32 = ((-127 : ℝ) : EReal) := by
  rw [EReal.coe_eq_coe_iff.mpr (show (-127 : ℝ) = (-1 * (2 ^ 23 + 0x7E0000 : Nat) * (2 : ℝ) ^ ((133 : Int) - 127 - 23)) by norm_num)]
  simp [Ideal.ofBits, Ideal.ieee]

/-- The word the row maximum is multiplied by is a nonzero number. -/
theorem ofBits_inv127_ne : Ideal.ofBits .f32 0x3C010204#32 ≠ 0 := by
  have : Ideal.ofBits .f32 0x3C010204#32 = (((2 ^ 23 + 0x010204 : Nat) * (2 : ℝ) ^ ((120 : Int) - 127 - 23) : ℝ) : EReal) := by
    simp [Ideal.ofBits, Ideal.ieee]
  rw [this]
  exact_mod_cast (by positivity : (((2 ^ 23 + 0x010204 : Nat) * (2 : ℝ) ^ ((120 : Int) - 127 - 23) : ℝ)) ≠ 0)

/-- A scale is never zero: a row of zeros has scale one, and any other row's maximum times a nonzero number is not zero. -/
theorem scaleOf_ne (a : EReal) : scaleOf a ≠ 0 := by
  unfold scaleOf
  show Scalar.select (BitVec.ofBool (decide (a = Ideal.ofBits .f32 0x00000000#32))) (Ideal.ofBits .f32 0x3F800000#32)
    (a * Ideal.ofBits .f32 0x3C010204#32) ≠ 0
  rw [Ideal.ofBits_zero_f32, Ideal.ofBits_one_f32]
  by_cases h : a = 0
  · rw [decide_eq_true h]; exact one_ne_zero
  · rw [decide_eq_false h]; exact mul_ne_zero h ofBits_inv127_ne

/-- Multiplying by one over the scale is dividing by the scale. -/
theorem mul_inv_scale (v a : EReal) :
    FloatOps.mulf (F := Ideal) (φ := .f32) v (FloatOps.divf (F := Ideal) (φ := .f32) (FloatOps.ofBits .f32 0x3F800000#32) (scaleOf a))
      = FloatOps.divf (F := Ideal) (φ := .f32) v (scaleOf a) := by
  show v * Ideal.div (Ideal.ofBits .f32 0x3F800000#32) (scaleOf a) = Ideal.div v (scaleOf a)
  unfold Ideal.div
  rw [if_neg (scaleOf_ne a), if_neg (scaleOf_ne a), Ideal.ofBits_one_f32, one_mul]

/-- A code is an integer of magnitude at most 127. -/
theorem natAbs_codeOf (t : EReal) : (codeOf t).toInt.natAbs ≤ 127 := by
  unfold codeOf
  show (Ideal.fptosi 8 (min (Ideal.ofBits .f32 0x42FE0000#32) (max (Ideal.ofBits .f32 0xC2FE0000#32)
    (Ideal.liftRound Ideal.roundHalfEven t)))).toInt.natAbs ≤ 127
  rw [ofBits_127, ofBits_neg_127]
  generalize Ideal.liftRound Ideal.roundHalfEven t = u
  have hlo : ((-127 : ℝ) : EReal) ≤ min ((127 : ℝ) : EReal) (max ((-127 : ℝ) : EReal) u) :=
    le_min (EReal.coe_le_coe_iff.mpr (by norm_num)) (le_max_left _ _)
  have hhi : min ((127 : ℝ) : EReal) (max ((-127 : ℝ) : EReal) u) ≤ ((127 : ℝ) : EReal) := min_le_left _ _
  generalize min ((127 : ℝ) : EReal) (max ((-127 : ℝ) : EReal) u) = z at hlo hhi
  induction z with
  | bot => exact absurd hlo (by simp)
  | top => exact absurd hhi (by simp)
  | coe r =>
    have h1 : (-127 : ℝ) ≤ r := EReal.coe_le_coe_iff.mp hlo
    have h2 : r ≤ 127 := EReal.coe_le_coe_iff.mp hhi
    unfold Ideal.fptosi
    rw [Ideal.toIntClamped_coe]
    have ha : -127 ≤ (if 0 ≤ r then ⌊r⌋ else ⌈r⌉) ∧ (if 0 ≤ r then ⌊r⌋ else ⌈r⌉) ≤ 127 := by
      split_ifs with h
      · exact ⟨Int.le_floor.mpr (by push_cast; linarith), Int.floor_le_iff.mpr (by push_cast; linarith)⟩
      · exact ⟨Int.le_ceil_iff.mpr (by push_cast; linarith), Int.ceil_le.mpr (by push_cast; linarith)⟩
    generalize (if 0 ≤ r then ⌊r⌋ else ⌈r⌉) = n at ha
    rw [BitVec.toInt_ofInt]
    have e : max (-((2 ^ (8 - 1) : Nat) : Int)) (min (((2 ^ (8 - 1) : Nat) : Int) - 1) n) = n := by
      simp only [Nat.reduceSub, Nat.reducePow, Nat.cast_ofNat]; omega
    first
      | rw [e, Int.bmod_eq_of_le (by omega) (by omega)]; omega
      | (simp only [Nat.reduceSub, Nat.reducePow, Nat.cast_ofNat] at e ⊢; rw [e, Int.bmod_eq_of_le (by omega) (by omega)]; omega)

end Cert.Quarot

end
-- ==== Proof.Tile.lean ====
/- One 256-column tile of the kernel's rotation, and the running row maximum of the thirteen tiles. -/
module

public import proofs.«01_k».proof.Proof.Gen.KernelIdeal.Skeleton
public import proofs.«01_k».proof.Proof.Quant
public import Idealize.ShloMosaic.Lib.MatmulPlain
public import Idealize.ShloMosaic.Lib.ValueIdx
public import Idealize.ShloMosaic.Lib.ValueLayoutCasts
public import Idealize.ShloMosaic.Lib.Pipeline.Value

@[expose] public section

noncomputable section

namespace Cert.Quarot

open Idealize.ShloMosaic Idealize.ShloMosaic.ValueIdx
open Cert.KernelIdeal Cert.KernelIdeal.Gen

/-- The rotation's scale, the word nearest to one over the square root of 128. -/
def hadC : EReal := Ideal.ofBits .f32 0x3DB504F3#32

/-- A rotated tile: the product of a 256 × 256 tile with the sign table, times the scale. -/
def tile (v s : S256x256.Idx → EReal) (j : S256x256.Idx) : EReal :=
  (∑ k : Fin 256, v (ix2 (j 0) k) * s (ix2 k (j 1))) * hadC

/-- The first tile's payload is `tile`; the other tiles' payloads are the same expression. -/
theorem pay1_apply (v s : FVec Ideal S256x256 .bf16) (p q : Fin 256) : k0_pay1 (F := Ideal) v s (ix2 p q) = tile v s (ix2 p q) := by
  have h := Ideal.matmul_plain_apply (φ₁ := .bf16) (φ₂ := .bf16) none v s (constant (F := Ideal) S256x256 .f32 0x00000000#32) p q
  have h0 : constant (F := Ideal) S256x256 .f32 0x00000000#32 (ix2 p q) = 0 := Ideal.ofBits_zero_f32
  rw [h0, zero_add] at h
  unfold k0_pay1
  rw [Idealize.ShloMosaic.shapeCast_self]
  exact congrArg (· * hadC) h

theorem pay1_eq (v s : FVec Ideal S256x256 .bf16) : k0_pay1 (F := Ideal) v s = tile v s := by
  funext j
  obtain ⟨p, q, rfl⟩ : ∃ p q : Fin 256, j = ix2 p q := ⟨j 0, j 1, eq_ix2 j⟩
  exact pay1_apply v s p q

/-- The stored tile is the tile. -/
theorem pay2_eq (v s : FVec Ideal S256x256 .bf16) : k0_pay2 (F := Ideal) v s = tile v s := by
  unfold k0_pay2
  rw [Idealize.ShloMosaic.shapeCast_self, pay1_eq]

/-- The row maximum of the magnitudes of one tile, as a column. -/
def rmax (x : FVec Ideal S256x256 .f32) : FVec Ideal S256x1 .f32 :=
  shapeCast S256x1 (multiReduction .maximumf [1] S256 (absf x) 0xFF800000#32 reduces_S256x256_S256 (.inl rfl) rfl)
    shapeCasts_S256_S256x1

/-- The word the maxima start from is −∞. -/
theorem ofBits_neg_inf : Ideal.ofBits .f32 0xFF800000#32 = ⊥ := by simp [Ideal.ofBits, Ideal.ieee]

/-- A row maximum of magnitudes from −∞, at any extents, is the largest magnitude of the row. -/
theorem rowMax_apply {M N : Nat} (x : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (p : Fin M) :
    multiReduction .maximumf [1] ⟨1, ![M]⟩ (absf x) 0xFF800000#32 h hφ hacc (ix1 p) = rowSup fun k : Fin N => x (ix2 p k) := by
  rw [Ideal.multiReduction_maximumf_single]
  show Finset.fold max (Ideal.ofBits .f32 0xFF800000#32) _ _ = _
  rw [ofBits_neg_inf]
  have e : ∀ k : Fin N, h.lift (ix1 p) k = ix2 p k := fun k => by
    funext a; apply Fin.ext
    match a with
    | ⟨0, _⟩ => rfl
    | ⟨1, _⟩ => rfl
  show Finset.fold max ⊥ (fun k : Fin N => max (x (h.lift (ix1 p) k)) (-(x (h.lift (ix1 p) k)))) Finset.univ = _
  simp only [e]
  rfl

/-- It is the largest magnitude of the tile's row. -/
theorem rmax_apply (x : FVec Ideal S256x256 .f32) (p : Fin 256) (z : Fin 1) :
    rmax x (ix2 p z) = rowSup fun k : Fin 256 => x (ix2 p k) := by
  unfold rmax
  exact (shapeCast_a_a1_apply _ shapeCasts_S256_S256x1 p z).trans (rowMax_apply x reduces_S256x256_S256 (.inl rfl) rfl p)

end Cert.Quarot

end
-- ==== Proof.Payloads.lean ====
/- What each value of the kernel's body is, in terms of the thirteen tiles: every stored tile is `tile` of its columns, and
   the running maximum is the maximum of the tiles' row maxima. -/
module

public import proofs.«01_k».proof.Proof.Tile

@[expose] public section

noncomputable section

namespace Cert.Quarot

open Idealize.ShloMosaic Idealize.ShloMosaic.ValueIdx
open Cert.KernelIdeal Cert.KernelIdeal.Gen

/-- The product of one tile before its scaling, read from a tile already loaded. -/
theorem pay14_eq (v s : FVec Ideal S256x256 .bf16) : k0_pay14 (F := Ideal) v s = tile v s := by
  have h := pay1_eq v s
  unfold k0_pay1 at h
  rw [Idealize.ShloMosaic.shapeCast_self] at h
  exact h

theorem pay13_eq (v : FVec Ideal S256x256 .bf16) : k0_pay13 (F := Ideal) v = v := Idealize.ShloMosaic.shapeCast_self _ _
theorem pay3_eq (v s : FVec Ideal S256x256 .bf16) : k0_pay3 (F := Ideal) v s = tile v s := pay1_eq v s
theorem pay4_eq (v s : FVec Ideal S256x256 .bf16) : k0_pay4 (F := Ideal) v s = tile v s := pay2_eq v s
theorem pay6_eq (v s : FVec Ideal S256x256 .bf16) : k0_pay6 (F := Ideal) v s = tile v s := pay1_eq v s
theorem pay7_eq (t : FVec Ideal S256x256 .f32) : k0_pay7 (F := Ideal) t = t := Idealize.ShloMosaic.shapeCast_self _ _
theorem pay8_eq (v s : FVec Ideal S256x256 .bf16) : k0_pay8 (F := Ideal) v s = tile v s := pay1_eq v s
theorem pay9_eq (v s : FVec Ideal S256x256 .bf16) : k0_pay9 (F := Ideal) v s = tile v s := pay2_eq v s
theorem pay10_eq (v s : FVec Ideal S256x256 .bf16) : k0_pay10 (F := Ideal) v s = tile v s := pay1_eq v s
theorem pay11_eq (v s : FVec Ideal S256x256 .bf16) : k0_pay11 (F := Ideal) v s = tile v s := pay2_eq v s
theorem pay15_eq (v s : FVec Ideal S256x256 .bf16) : k0_pay15 (F := Ideal) v s = tile v s :=
  (Idealize.ShloMosaic.shapeCast_self _ _).trans (pay14_eq v s)
theorem pay16_eq (v s : FVec Ideal S256x256 .bf16) : k0_pay16 (F := Ideal) v s = tile v s := pay1_eq v s
theorem pay17_eq (v s : FVec Ideal S256x256 .bf16) : k0_pay17 (F := Ideal) v s = tile v s := pay2_eq v s
theorem pay19_eq (v s : FVec Ideal S256x256 .bf16) : k0_pay19 (F := Ideal) v s = tile v s := pay1_eq v s
theorem pay20_eq (v s : FVec Ideal S256x256 .bf16) : k0_pay20 (F := Ideal) v s = tile v s := pay2_eq v s
theorem pay21_eq (v s : FVec Ideal S256x256 .bf16) : k0_pay21 (F := Ideal) v s = absf (F := Ideal) (φ := .f32) (tile v s) :=
  congrArg (absf (F := Ideal) (φ := .f32)) (pay1_eq v s)
theorem pay22_eq (v s : FVec Ideal S256x256 .bf16) : k0_pay22 (F := Ideal) v s = tile v s := pay1_eq v s
theorem pay23_eq (v s : FVec Ideal S256x256 .bf16) : k0_pay23 (F := Ideal) v s = tile v s := pay2_eq v s
theorem pay24_eq (v s : FVec Ideal S256x256 .bf16) : k0_pay24 (F := Ideal) v s = tile v s := pay1_eq v s
theorem pay25_eq (v s : FVec Ideal S256x256 .bf16) : k0_pay25 (F := Ideal) v s = tile v s := pay2_eq v s
/-- The tenth tile is scaled after a cut in the body, by the same word. -/
theorem pay28_eq (v s : FVec Ideal S256x256 .bf16) : k0_pay28 (F := Ideal) (k0_pay27 v s) (FloatOps.ofBits .f32 0x3DB504F3#32) = tile v s :=
  pay1_eq v s
theorem pay29_eq (v s : FVec Ideal S256x256 .bf16) : k0_pay29 (F := Ideal) (k0_pay27 v s) (FloatOps.ofBits .f32 0x3DB504F3#32) = tile v s :=
  pay2_eq v s
theorem pay30_eq (v s : FVec Ideal S256x256 .bf16) : k0_pay30 (F := Ideal) v s = tile v s := pay1_eq v s
theorem pay31_eq (v s : FVec Ideal S256x256 .bf16) : k0_pay31 (F := Ideal) v s = tile v s := pay2_eq v s
theorem pay32_eq (v s : FVec Ideal S256x256 .bf16) : k0_pay32 (F := Ideal) v s = tile v s := pay1_eq v s
theorem pay33_eq (v s : FVec Ideal S256x256 .bf16) : k0_pay33 (F := Ideal) v s = tile v s := pay2_eq v s

/-! ## The running maximum -/

theorem pay5_eq (v s v' s' : FVec Ideal S256x256 .bf16) :
    k0_pay5 (F := Ideal) v s v' s' = maximumf (rmax (tile v s)) (rmax (tile v' s')) := by
  show maximumf (rmax (k0_pay1 v s)) (rmax (k0_pay3 v' s')) = _
  rw [pay1_eq, pay3_eq]

theorem pay12_eq (a : FVec Ideal S256x1 .f32) (t : FVec Ideal S256x256 .f32) (v s v' s' : FVec Ideal S256x256 .bf16) :
    k0_pay12 (F := Ideal) a t v s v' s' = maximumf (maximumf (maximumf a (rmax t)) (rmax (tile v s))) (rmax (tile v' s')) := by
  show maximumf (maximumf (maximumf a (rmax t)) (rmax (k0_pay8 v s))) (rmax (k0_pay10 v' s')) = _
  rw [pay8_eq, pay10_eq]

theorem pay18_eq (a : FVec Ideal S256x1 .f32) (v s v' s' : FVec Ideal S256x256 .bf16) :
    k0_pay18 (F := Ideal) a v s v' s' = maximumf (maximumf a (rmax (tile v s))) (rmax (tile v' s')) := by
  show maximumf (maximumf a (rmax (k0_pay14 v s))) (rmax (k0_pay16 v' s')) = _
  rw [pay14_eq, pay16_eq]

theorem pay26_eq (a : FVec Ideal S256x1 .f32) (t : FVec Ideal S256x256 .f32) (v s v' s' : FVec Ideal S256x256 .bf16) :
    k0_pay26 (F := Ideal) a (absf t) v s v' s' = maximumf (maximumf (maximumf a (rmax t)) (rmax (tile v s))) (rmax (tile v' s')) := by
  show maximumf (maximumf (maximumf a (rmax t)) (rmax (k0_pay22 v s))) (rmax (k0_pay24 v' s')) = _
  rw [pay22_eq, pay24_eq]

theorem pay34_eq (a : FVec Ideal S256x1 .f32) (u w v s v' s' : FVec Ideal S256x256 .bf16) :
    k0_pay34 (F := Ideal) a (k0_pay27 u w) (FloatOps.ofBits .f32 0x3DB504F3#32) v s v' s'
      = maximumf (maximumf (maximumf a (rmax (tile u w))) (rmax (tile v s))) (rmax (tile v' s')) := by
  show maximumf (maximumf (maximumf a (rmax (k0_pay28 (k0_pay27 u w) (FloatOps.ofBits .f32 0x3DB504F3#32)))) (rmax (k0_pay30 v s)))
    (rmax (k0_pay32 v' s')) = _
  rw [pay28_eq, pay30_eq, pay32_eq]

/-! ## The scale, the codes and the output -/

/-- The scale of a row is the scale of its maximum. -/
theorem pay35_apply (a : FVec Ideal S256x1 .f32) (j : S256x1.Idx) :
    k0_pay35 (F := Ideal) a (FloatOps.ofBits .f32 0#32) j = scaleOf (a j) := rfl

/-- A code is the code of the entry divided by its row's scale. -/
theorem pay36_apply (a : FVec Ideal S256x1 .f32) (x : FVec Ideal S256x3328 .f32) (p : Fin 256) (q : Fin 3328) :
    k0_pay36 (F := Ideal) a (FloatOps.ofBits .f32 0#32) x (ix2 p q)
      = codeOf (FloatOps.divf (F := Ideal) (φ := .f32) (x (ix2 p q)) (scaleOf (a (ix2 p 0)))) := by
  have hb : broadcastTo S256x3328 (divf (broadcast S256x1 (Scalar.ofBits (F := Ideal) .f32 0x3F800000#32))
      (k0_pay35 (F := Ideal) a (FloatOps.ofBits .f32 0#32))) broadcasts_S256x1_S256x3328 (ix2 p q)
      = FloatOps.divf (F := Ideal) (φ := .f32) (FloatOps.ofBits .f32 0x3F800000#32) (scaleOf (a (ix2 p 0))) :=
    broadcastTo_apply _ _ _ (ix2 p 0) (fun a => by
      match a with
      | ⟨0, _⟩ => rfl
      | ⟨1, _⟩ => rfl)
  rw [← mul_inv_scale, ← hb]
  rfl

/-- An output entry is the accumulated word as a number, times its row's scale, times its column's. -/
theorem pay42_apply (sc : FVec Ideal S256x1 .f32) (acc : IVec S256x1280 32) (sw : FVec Ideal S1x1280 .f32) (p : Fin 256) (o : Fin 1280) :
    k0_pay42 (F := Ideal) sc acc sw (ix2 p o)
      = FloatOps.mulf (F := Ideal) (φ := .f32) (FloatOps.mulf (F := Ideal) (φ := .f32) (FloatOps.sitofp .f32 (acc (ix2 p o))) (sc (ix2 p 0)))
          (sw (ix2 0 o)) := by
  have h1 : broadcastTo S256x1280 sc broadcasts_S256x1_S256x1280 (ix2 p o) = sc (ix2 p 0) :=
    broadcastTo_apply _ _ _ (ix2 p 0) (fun a => by
      match a with
      | ⟨0, _⟩ => rfl
      | ⟨1, _⟩ => rfl)
  have h2 : broadcastTo S256x1280 (shapeCast S1x1280 sw shapeCasts_S1x1280_S1x1280) broadcasts_S1x1280_S256x1280 (ix2 p o) = sw (ix2 0 o) := by
    rw [Idealize.ShloMosaic.shapeCast_self]
    exact broadcastTo_apply _ _ _ (ix2 0 o) (fun a => by
      match a with
      | ⟨0, _⟩ => rfl
      | ⟨1, _⟩ => rfl)
  rw [← h1, ← h2]
  rfl

end Cert.Quarot

end
-- ==== Proof.Chunks.lean ====
/- The integer products: one chunk of codes against one chunk of weights is the word of the exact sum of products. -/
module

public import proofs.«01_k».proof.Proof.Payloads
public import Idealize.ShloMosaic.Lib.IntMxu

@[expose] public section

noncomputable section

namespace Cert.Quarot

open Idealize.ShloMosaic Idealize.ShloMosaic.ValueIdx
open Cert.KernelIdeal Cert.KernelIdeal.Gen

/-- A plain integer product's exact sum, over the one contracted coordinate. -/
theorem dotI8_plain {M K N : Nat} (l : IVec ⟨2, ![M, K]⟩ 8) (r : IVec ⟨2, ![K, N]⟩ 8) (p : Fin M) (o : Fin N) :
    dotI8 (DotDims.plain M K N) l r (ix2 p o) = ∑ k : Fin K, (l (ix2 p k)).toInt * (r (ix2 k o)).toInt := by
  unfold dotI8
  rw [← Equiv.sum_comp (DotDims.plainContr M K N).symm]
  refine Finset.sum_congr rfl fun k _ => ?_
  have hk := contrEquiv1_symm_val _ K (DotDims.plain_contr_rank M K N) (DotDims.plain_contr_size M K N) k
  have el : (DotDims.plain M K N).lhsIdx (ix2 p o) ((DotDims.plainContr M K N).symm k) = ix2 p k := by
    funext a; apply Fin.ext
    match a with
    | ⟨0, _⟩ => rfl
    | ⟨1, _⟩ => exact hk
  have er : (DotDims.plain M K N).rhsIdx (ix2 p o) ((DotDims.plainContr M K N).symm k) = ix2 k o := by
    funext a; apply Fin.ext
    match a with
    | ⟨0, _⟩ => exact hk
    | ⟨1, _⟩ => rfl
  rw [el, er]

/-- Against codes of magnitude at most 127 the products' magnitudes total at most 127 · 128 a position. -/
theorem absDotI8_plain_le {M K N : Nat} (l : IVec ⟨2, ![M, K]⟩ 8) (r : IVec ⟨2, ![K, N]⟩ 8) (p : Fin M) (o : Fin N)
    (hl : ∀ k : Fin K, (l (ix2 p k)).toInt.natAbs ≤ 127) :
    absDotI8 (DotDims.plain M K N) l r (ix2 p o) ≤ K * (127 * 128) := by
  unfold absDotI8
  rw [← Equiv.sum_comp (DotDims.plainContr M K N).symm]
  refine (Finset.sum_le_card_nsmul Finset.univ _ (127 * 128) fun k _ => ?_).trans (by simp)
  have hk := contrEquiv1_symm_val _ K (DotDims.plain_contr_rank M K N) (DotDims.plain_contr_size M K N) k
  have el : (DotDims.plain M K N).lhsIdx (ix2 p o) ((DotDims.plainContr M K N).symm k) = ix2 p k := by
    funext a; apply Fin.ext
    match a with
    | ⟨0, _⟩ => rfl
    | ⟨1, _⟩ => exact hk
  rw [el, Int.natAbs_mul]
  exact Nat.mul_le_mul (hl k) (natAbs_toInt_i8_le _)

/-- A product of a chunk of at most 1024 positions is the word of the exact sum: the magnitudes stay within the unit's
    exact range. -/
theorem matmulI8_plain {M K N : Nat} (hK : K ≤ 1024) (l : IVec ⟨2, ![M, K]⟩ 8) (r : IVec ⟨2, ![K, N]⟩ 8) (p : Fin M) (o : Fin N)
    (hl : ∀ k : Fin K, (l (ix2 p k)).toInt.natAbs ≤ 127) :
    matmulI8 IntMxuNumerics.v7x (DotDims.plain M K N) l r (constantI ⟨2, ![M, N]⟩ 32 0#32) (ix2 p o)
      = BitVec.ofInt 32 (∑ k : Fin K, (l (ix2 p k)).toInt * (r (ix2 k o)).toInt) := by
  rw [matmulI8_exact _ _ _ _ _ _ rfl, dotI8_plain]
  refine (absDotI8_plain_le l r p o hl).trans ?_
  have : IntMxuNumerics.v7x.exactUpTo = 2 ^ 24 - 1 := rfl
  omega

variable (p : Fin 256) (o : Fin 1280)

/-- The first chunk's product. -/
theorem pay37_apply (l : IVec S256x1024 8) (r : IVec S1024x1280 8) (hl : ∀ k : Fin 1024, (l (ix2 p k)).toInt.natAbs ≤ 127) :
    k0_pay37 (F := Ideal) l r (ix2 p o) = BitVec.ofInt 32 (∑ k : Fin 1024, (l (ix2 p k)).toInt * (r (ix2 k o)).toInt) := by
  unfold k0_pay37
  rw [Idealize.ShloMosaic.shapeCast_self, Idealize.ShloMosaic.shapeCast_self]
  exact matmulI8_plain le_rfl l r p o hl

/-- The second chunk's product onto what the first left. -/
theorem pay38_apply (l : IVec S256x1024 8) (r : IVec S1024x1280 8) (a : IVec S256x1280 32)
    (hl : ∀ k : Fin 1024, (l (ix2 p k)).toInt.natAbs ≤ 127) :
    k0_pay38 (F := Ideal) l r a (ix2 p o)
      = a (ix2 p o) + BitVec.ofInt 32 (∑ k : Fin 1024, (l (ix2 p k)).toInt * (r (ix2 k o)).toInt) := by
  unfold k0_pay38
  rw [Idealize.ShloMosaic.shapeCast_self]
  exact congrArg (a (ix2 p o) + ·) (matmulI8_plain le_rfl l r p o hl)

theorem pay39_eq (a : IVec S256x1280 32) : k0_pay39 a = a := Idealize.ShloMosaic.shapeCast_self _ _

/-- The third chunk's. -/
theorem pay40_apply (l : IVec S256x1024 8) (r : IVec S1024x1280 8) (a : IVec S256x1280 32)
    (hl : ∀ k : Fin 1024, (l (ix2 p k)).toInt.natAbs ≤ 127) :
    k0_pay40 (F := Ideal) l r a (ix2 p o)
      = a (ix2 p o) + BitVec.ofInt 32 (∑ k : Fin 1024, (l (ix2 p k)).toInt * (r (ix2 k o)).toInt) := by
  unfold k0_pay40
  rw [Idealize.ShloMosaic.shapeCast_self, Idealize.ShloMosaic.shapeCast_self]
  exact congrArg (a (ix2 p o) + ·) (matmulI8_plain le_rfl l r p o hl)

/-- The last chunk's, 256 positions. -/
theorem pay41_apply (l : IVec S256x256 8) (r : IVec S256x1280 8) (a : IVec S256x1280 32)
    (hl : ∀ k : Fin 256, (l (ix2 p k)).toInt.natAbs ≤ 127) :
    k0_pay41 (F := Ideal) l r a (ix2 p o)
      = a (ix2 p o) + BitVec.ofInt 32 (∑ k : Fin 256, (l (ix2 p k)).toInt * (r (ix2 k o)).toInt) := by
  unfold k0_pay41
  rw [Idealize.ShloMosaic.shapeCast_self, Idealize.ShloMosaic.shapeCast_self]
  exact congrArg (a (ix2 p o) + ·) (matmulI8_plain (by norm_num) l r p o hl)

end Cert.Quarot

end
-- ==== Proof.Block.lean ====
/- What one grid point leaves in the three output blocks, row by row, from the blocks it reads. -/
module

public import proofs.«01_k».proof.Proof.Chunks
public import proofs.«01_k».proof.Proof.Gen.KernelIdeal.Frame
public import Idealize.ShloMosaic.Lib.WholeRead
public import Mathlib.Tactic.IntervalCases
public import Idealize.ShloMosaic.Lib.Pipeline.ValueKit.Tiles

@[expose] public section

noncomputable section

namespace Cert.Quarot

open Idealize.ShloMosaic Idealize.ShloMosaic.ValueIdx
open Cert.KernelIdeal Cert.KernelIdeal.Gen

/-- A row as the kernel rotates it: each 256-column tile times the sign table, scaled. -/
def krot (x : Fin 3328 → EReal) (s : S256x256.Idx → EReal) (j : Fin 3328) : EReal :=
  (∑ k : Fin 256, x ⟨256 * (j.val / 256) + k.val, by omega⟩ * s (ix2 k ⟨j.val % 256, by omega⟩)) * hadC

/-- The 256 columns of a block from column `o`. -/
def cols (x : S256x3328.Idx → EReal) (o : Nat) (h : o + 256 ≤ 3328) (j : S256x256.Idx) : EReal :=
  x (ix2 (j 0) ⟨o + (j 1).val, by have := idx2_lt1 j; omega⟩)

/-- A rotated tile is the rotated row at the tile's columns. -/
theorem tile_cols (x : S256x3328.Idx → EReal) (s : S256x256.Idx → EReal) (o : Nat) (h : o + 256 ≤ 3328) (ho : o % 256 = 0)
    (p k : Fin 256) :
    tile (cols x o h) s (ix2 p k) = krot (fun j => x (ix2 p j)) s ⟨o + k.val, by omega⟩ := by
  unfold tile krot cols
  refine congrArg (· * hadC) (Finset.sum_congr rfl fun i _ => ?_)
  have e1 : 256 * ((o + k.val) / 256) = o := by omega
  have e2 : (o + k.val) % 256 = k.val := by omega
  congr 1
  · refine congrArg x ?_
    show ix2 p _ = ix2 p _
    refine congrArg (ix2 p) (Fin.ext ?_)
    show o + i.val = 256 * ((o + k.val) / 256) + i.val
    rw [e1]
  · refine congrArg s ?_
    show ix2 i k = ix2 i _
    refine congrArg (ix2 i) (Fin.ext ?_)
    show k.val = (o + k.val) % 256
    rw [e2]

/-! ## The loads -/

variable (c : Dev nD) (arg1 : Memref sig .tc .vmem S256x3328 .bf16) (harg1 : arg1.IsWhole)
  (arg2 : Memref sig .tc .vmem S256x256 .bf16) (harg2 : arg2.IsWhole)
  (arg3 : Memref sig .tc .vmem S3328x1280 .i8) (harg3 : arg3.IsWhole) (arg4 : Memref sig .tc .vmem S1x1280 .f32) (harg4 : arg4.IsWhole)
  (arg6 : Memref sig .tc .vmem S256x3328 .i8) (arg8 : Memref sig .tc .vmem S256x3328 .f32) (arg9 : Memref sig .tc .vmem S256x1280 .i32)
  (x0 : Vec Ideal S256x3328 .bf16) (x1 : Vec Ideal S256x256 .bf16) (x2 : Vec Ideal S3328x1280 .i8) (x3 : Vec Ideal S1x1280 .f32)

/-- The columns a load takes are columns of the block. -/
theorem le_of_inb (o : Nat) (inb : ∀ a, (![0, o] : Fin 2 → Nat) a + S256x256.size a ≤ S256x3328.size a) : o + 256 ≤ 3328 := inb 1

/-- A load of 256 columns of the activations. -/
theorem read_cols (o : Nat) (inb : ∀ a, (![0, o] : Fin 2 → Nat) a + S256x256.size a ≤ S256x3328.size a) :
    View.readAt (Elt Ideal) arg1.view (Rect.unit (s := S256x3328) ![0, o] S256x256.size inb).toLoadRect (harg1.unread x0)
      = cols x0 o (le_of_inb o inb) := by
  funext j
  refine (harg1.readAt_unread x0 _ j).trans (congrArg x0 (funext fun a => Fin.ext ?_))
  match a with
  | ⟨0, _⟩ => exact (Rect.idx_unit_val (s := S256x3328) ![0, o] S256x256.size inb j 0).trans (Nat.zero_add _)
  | ⟨1, _⟩ => exact Rect.idx_unit_val (s := S256x3328) ![0, o] S256x256.size inb j 1

/-- A load of the whole sign table. -/
theorem read_signs (inb : ∀ a, (![0, 0] : Fin 2 → Nat) a + S256x256.size a ≤ S256x256.size a) :
    View.readAt (Elt Ideal) arg2.view (Rect.unit (s := S256x256) ![0, 0] S256x256.size inb).toLoadRect (harg2.unread x1) = x1 := by
  funext j
  refine (harg2.readAt_unread x1 _ j).trans (congrArg x1 (funext fun a => Fin.ext ?_))
  match a with
  | ⟨0, _⟩ => exact (Rect.idx_unit_val (s := S256x256) ![0, 0] S256x256.size inb j 0).trans (Nat.zero_add _)
  | ⟨1, _⟩ => exact (Rect.idx_unit_val (s := S256x256) ![0, 0] S256x256.size inb j 1).trans (Nat.zero_add _)

/-! ## The running maximum of the thirteen tiles -/

/-- The largest magnitude of a row of 3328 numbers is the largest over its thirteen groups of 256. -/
theorem max_tiles (f : Fin 3328 → EReal) :
    max (max (max (max (max (max (max (max (max (max (max (max (rowSup fun k : Fin 256 => f ⟨0 + k.val, by omega⟩) (rowSup fun k : Fin 256 => f ⟨256 + k.val, by omega⟩)) (rowSup fun k : Fin 256 => f ⟨512 + k.val, by omega⟩)) (rowSup fun k : Fin 256 => f ⟨768 + k.val, by omega⟩)) (rowSup fun k : Fin 256 => f ⟨1024 + k.val, by omega⟩)) (rowSup fun k : Fin 256 => f ⟨1280 + k.val, by omega⟩)) (rowSup fun k : Fin 256 => f ⟨1536 + k.val, by omega⟩)) (rowSup fun k : Fin 256 => f ⟨1792 + k.val, by omega⟩)) (rowSup fun k : Fin 256 => f ⟨2048 + k.val, by omega⟩)) (rowSup fun k : Fin 256 => f ⟨2304 + k.val, by omega⟩)) (rowSup fun k : Fin 256 => f ⟨2560 + k.val, by omega⟩)) (rowSup fun k : Fin 256 => f ⟨2816 + k.val, by omega⟩)) (rowSup fun k : Fin 256 => f ⟨3072 + k.val, by omega⟩)
      = rowSup f := by
  apply le_antisymm
  · have key : ∀ (o : Nat) (h : o + 256 ≤ 3328), (rowSup fun k : Fin 256 => f ⟨o + k.val, by omega⟩) ≤ rowSup f := fun o h =>
      Finset.sup_le fun k _ => Finset.le_sup (f := fun k : Fin 3328 => max (f k) (-(f k))) (Finset.mem_univ (⟨o + k.val, by omega⟩ : Fin 3328))
    simp only [max_le_iff, and_assoc]
    refine ⟨key 0 (by norm_num), key 256 (by norm_num), key 512 (by norm_num), key 768 (by norm_num), key 1024 (by norm_num), key 1280 (by norm_num), key 1536 (by norm_num), key 1792 (by norm_num), key 2048 (by norm_num), key 2304 (by norm_num), key 2560 (by norm_num), key 2816 (by norm_num), key 3072 (by norm_num)⟩
  · refine Finset.sup_le fun j _ => ?_
    have key : ∀ (o : Nat) (h : o + 256 ≤ 3328), o ≤ j.val → j.val < o + 256 →
        max (f j) (-(f j)) ≤ rowSup fun k : Fin 256 => f ⟨o + k.val, by omega⟩ := fun o h h1 h2 => by
      have e : j = ⟨o + (⟨j.val - o, by omega⟩ : Fin 256).val, by show o + (j.val - o) < 3328; omega⟩ :=
        Fin.ext (by show j.val = o + (j.val - o); omega)
      rw [e]
      exact Finset.le_sup (f := fun k : Fin 256 => max (f ⟨o + k.val, by omega⟩) (-(f ⟨o + k.val, by omega⟩))) (Finset.mem_univ _)
    have hq : j.val / 256 < 13 := by omega
    have hj : 256 * (j.val / 256) ≤ j.val ∧ j.val < 256 * (j.val / 256) + 256 := by omega
    generalize j.val / 256 = q at hq hj
    simp only [le_max_iff, or_assoc]
    interval_cases q
    · exact Or.inl (key 0 (by norm_num) hj.1 hj.2)
    · exact Or.inr (Or.inl (key 256 (by norm_num) hj.1 hj.2))
    · exact Or.inr (Or.inr (Or.inl (key 512 (by norm_num) hj.1 hj.2)))
    · exact Or.inr (Or.inr (Or.inr (Or.inl (key 768 (by norm_num) hj.1 hj.2))))
    · exact Or.inr (Or.inr (Or.inr (Or.inr (Or.inl (key 1024 (by norm_num) hj.1 hj.2)))))
    · exact Or.inr (Or.inr (Or.inr (Or.inr (Or.inr (Or.inl (key 1280 (by norm_num) hj.1 hj.2))))))
    · exact Or.inr (Or.inr (Or.inr (Or.inr (Or.inr (Or.inr (Or.inl (key 1536 (by norm_num) hj.1 hj.2)))))))
    · exact Or.inr (Or.inr (Or.inr (Or.inr (Or.inr (Or.inr (Or.inr (Or.inl (key 1792 (by norm_num) hj.1 hj.2))))))))
    · exact Or.inr (Or.inr (Or.inr (Or.inr (Or.inr (Or.inr (Or.inr (Or.inr (Or.inl (key 2048 (by norm_num) hj.1 hj.2)))))))))
    · exact Or.inr (Or.inr (Or.inr (Or.inr (Or.inr (Or.inr (Or.inr (Or.inr (Or.inr (Or.inl (key 2304 (by norm_num) hj.1 hj.2))))))))))
    · exact Or.inr (Or.inr (Or.inr (Or.inr (Or.inr (Or.inr (Or.inr (Or.inr (Or.inr (Or.inr (Or.inl (key 2560 (by norm_num) hj.1 hj.2)))))))))))
    · exact Or.inr (Or.inr (Or.inr (Or.inr (Or.inr (Or.inr (Or.inr (Or.inr (Or.inr (Or.inr (Or.inr (Or.inl (key 2816 (by norm_num) hj.1 hj.2))))))))))))
    · exact Or.inr (Or.inr (Or.inr (Or.inr (Or.inr (Or.inr (Or.inr (Or.inr (Or.inr (Or.inr (Or.inr (Or.inr (key 3072 (by norm_num) hj.1 hj.2))))))))))))

/-- The largest magnitude of one tile's row. -/
theorem rmax_cols (o : Nat) (h : o + 256 ≤ 3328) (ho : o % 256 = 0) (p : Fin 256) :
    rmax (tile (cols x0 o h) x1) (ix2 p 0)
      = rowSup fun k : Fin 256 => krot (fun j => x0 (ix2 p j)) x1 ⟨o + k.val, by omega⟩ := by
  rw [rmax_apply]
  simp only [tile_cols _ _ _ _ ho]

/-- The final maximum is the largest magnitude of the whole rotated row. -/
theorem amax_apply (p : Fin 256) :
    kernelRun0_A.sl.r_8 (F := Ideal) c arg1 harg1 arg2 harg2 x0 x1 (ix2 p 0) = rowSup (krot (fun j => x0 (ix2 p j)) x1) := by
  unfold kernelRun0_A.sl.r_8 kernelRun0_A.sl.r_6 kernelRun0_A.sl.r_7 kernelRun0_A.sl.r_5 kernelRun0_A.sl.r_4 kernelRun0_A.sl.r_3
    kernelRun0_A.sl.r_2 kernelRun0_A.sl.r_1 kernelRun0_A.sl.r kernelRun0_A.sl.cst_83
  rw [read_signs arg2 harg2 x1]
  repeat rw [read_cols arg1 harg1 x0]
  rw [pay34_eq, pay21_eq, pay26_eq, pay13_eq, pay18_eq, pay6_eq, pay12_eq, pay5_eq]
  simp only [maximumf_apply]
  have e := fun (o : Nat) (h : o + 256 ≤ 3328) (ho : o % 256 = 0) => rmax_cols x0 x1 o h ho p
  rw [e 0 _ rfl, e 256 _ rfl, e 512 _ rfl, e 768 _ rfl, e 1024 _ rfl, e 1280 _ rfl, e 1536 _ rfl, e 1792 _ rfl, e 2048 _ rfl, e 2304 _ rfl, e 2560 _ rfl, e 2816 _ rfl, e 3072 _ rfl]
  exact max_tiles (krot (fun j => x0 (ix2 p j)) x1)

end Cert.Quarot

end
-- ==== Proof.Scratchpads.lean ====
/- What the scratch buffers and the outputs of one grid point hold: the rotated rows, their codes, the integer products. -/
module

public import proofs.«01_k».proof.Proof.Block

@[expose] public section

noncomputable section

namespace Cert.Quarot

open Idealize.ShloMosaic Idealize.ShloMosaic.ValueIdx
open Cert.KernelIdeal Cert.KernelIdeal.Gen

variable (c : Dev nD) (arg1 : Memref sig .tc .vmem S256x3328 .bf16) (harg1 : arg1.IsWhole)
  (arg2 : Memref sig .tc .vmem S256x256 .bf16) (harg2 : arg2.IsWhole)
  (arg3 : Memref sig .tc .vmem S3328x1280 .i8) (harg3 : arg3.IsWhole) (arg4 : Memref sig .tc .vmem S1x1280 .f32) (harg4 : arg4.IsWhole)
  (arg6 : Memref sig .tc .vmem S256x3328 .i8) (arg8 : Memref sig .tc .vmem S256x3328 .f32) (arg9 : Memref sig .tc .vmem S256x1280 .i32)
  (x0 : Vec Ideal S256x3328 .bf16) (x1 : Vec Ideal S256x256 .bf16) (x2 : Vec Ideal S3328x1280 .i8) (x3 : Vec Ideal S1x1280 .f32)

/-! ## The rotated rows -/

/-- The rotated block. -/
def rotB (y : S256x3328.Idx) : EReal := krot (fun j => x0 (ix2 (y 0) j)) x1 (y 1)

/-- A stored tile holds the rotated block at its place. -/
theorem tile_piece (o : Nat) (ho : o % 256 = 0) (inb : ∀ a, (![0, o] : Fin 2 → Nat) a + S256x256.size a ≤ S256x3328.size a)
    (x : S256x256.Idx) :
    tile (cols x0 o (le_of_inb o inb)) x1 x = rotB x0 x1 ((Rect.unit (s := S256x3328) ![0, o] S256x256.size inb).emb x) := by
  obtain ⟨p, k, rfl⟩ : ∃ p k : Fin 256, x = ix2 p k := ⟨x 0, x 1, eq_ix2 x⟩
  have hle := le_of_inb o inb
  have e : (Rect.unit (s := S256x3328) ![0, o] S256x256.size inb).emb (ix2 p k) = ix2 p ⟨o + k.val, by omega⟩ := by
    funext a; apply Fin.ext
    match a with
    | ⟨0, _⟩ => exact (Rect.idx_unit_val (s := S256x3328) ![0, o] S256x256.size inb (ix2 p k) 0).trans (Nat.zero_add _)
    | ⟨1, _⟩ => exact Rect.idx_unit_val (s := S256x3328) ![0, o] S256x256.size inb (ix2 p k) 1
  rw [e, tile_cols _ _ _ _ ho]
  rfl

/-- Every store of the rotated tiles writes the rotated block at its place. -/
theorem xr_pieces : ∀ pc ∈ kernelRun0_A.sl.HS0_13 (F := Ideal) c arg1 harg1 arg2 harg2 x0 x1, ∀ x : pc.1.shape.Idx,
    pc.2 x = rotB x0 x1 (pc.1.emb x) := by
  unfold kernelRun0_A.sl.HS0_13 kernelRun0_A.sl.r_7 kernelRun0_A.sl.r_3 kernelRun0_A.sl.r_1 kernelRun0_A.sl.cst_83
  rw [read_signs arg2 harg2 x1]
  repeat rw [read_cols arg1 harg1 x0]
  rw [pay33_eq, pay31_eq, pay29_eq, pay25_eq, pay23_eq, pay20_eq, pay17_eq, pay13_eq, pay15_eq, pay11_eq, pay9_eq, pay6_eq, pay7_eq,
    pay4_eq, pay2_eq]
  simp only [List.forall_mem_cons, List.not_mem_nil, false_implies, implies_true, and_true]
  exact ⟨tile_piece x0 x1 3072 rfl inb_S256x3328_S256x256_0_3072, tile_piece x0 x1 2816 rfl inb_S256x3328_S256x256_0_2816, tile_piece x0 x1 2560 rfl inb_S256x3328_S256x256_0_2560, tile_piece x0 x1 2304 rfl inb_S256x3328_S256x256_0_2304, tile_piece x0 x1 2048 rfl inb_S256x3328_S256x256_0_2048, tile_piece x0 x1 1792 rfl inb_S256x3328_S256x256_0_1792, tile_piece x0 x1 1536 rfl inb_S256x3328_S256x256_0_1536, tile_piece x0 x1 1280 rfl inb_S256x3328_S256x256_0_1280, tile_piece x0 x1 1024 rfl inb_S256x3328_S256x256_0_1024, tile_piece x0 x1 768 rfl inb_S256x3328_S256x256_0_768, tile_piece x0 x1 512 rfl inb_S256x3328_S256x256_0_512, tile_piece x0 x1 256 rfl inb_S256x3328_S256x256_0_256, tile_piece x0 x1 0 rfl inb_S256x3328_S256x256_0_0⟩

/-- The rotated rows read back whole. -/
theorem xr_apply (p : Fin 256) (j : Fin 3328) :
    kernelRun0_A.sl.v177 (F := Ideal) c arg1 harg1 arg2 harg2 arg8 x0 x1 (ix2 p j) = krot (fun j => x0 (ix2 p j)) x1 j := by
  have hL := xr_pieces c arg1 harg1 arg2 harg2 x0 x1
  have hc := View.cover_of_tiledL (kernelRun0_A.sl.HS0_13 (F := Ideal) c arg1 harg1 arg2 harg2 x0 x1) S256x256.size (by sl_kernel_rfl)
  unfold kernelRun0_A.sl.v177
  generalize kernelRun0_A.sl.HS0_13 (F := Ideal) c arg1 harg1 arg2 harg2 x0 x1 = L at hL hc
  rw [View.readCov_eq_canon']
  have e : (Rect.unit (s := S256x3328) ![0, 0] S256x3328.size inb_S256x3328_S256x3328_0_0).toLoadRect.idx (ix2 p j) = ix2 p j := by
    funext a; apply Fin.ext
    match a with
    | ⟨0, _⟩ => exact (Rect.idx_unit_val (s := S256x3328) ![0, 0] S256x3328.size inb_S256x3328_S256x3328_0_0 (ix2 p j) 0).trans (Nat.zero_add _)
    | ⟨1, _⟩ => exact (Rect.idx_unit_val (s := S256x3328) ![0, 0] S256x3328.size inb_S256x3328_S256x3328_0_0 (ix2 p j) 1).trans (Nat.zero_add _)
  refine (congrArg (View.canon L) e).trans ?_
  exact View.canon_apply_of_pieces (rotB x0 x1) L hL (ix2 p j) (hc _)

/-! ## The codes and the scale -/

/-- The stored codes, row by row. -/
theorem codes_apply (p : Fin 256) (j : Fin 3328) :
    k0_pay36 (F := Ideal) (kernelRun0_A.sl.r_8 c arg1 harg1 arg2 harg2 x0 x1) kernelRun0_A.sl.cst_103
      (kernelRun0_A.sl.v177 c arg1 harg1 arg2 harg2 arg8 x0 x1) (ix2 p j) = rowCode (krot (fun j => x0 (ix2 p j)) x1) j := by
  unfold kernelRun0_A.sl.cst_103
  rw [pay36_apply, amax_apply, xr_apply]
  rfl

/-- The stored scales. -/
theorem scale_apply (p : Fin 256) :
    kernelRun0_A.sl.r_9 (F := Ideal) c arg1 harg1 arg2 harg2 x0 x1 (ix2 p 0) = rowScale (krot (fun j => x0 (ix2 p j)) x1) := by
  unfold kernelRun0_A.sl.r_9 kernelRun0_A.sl.cst_103
  rw [pay35_apply, amax_apply]
  rfl

end Cert.Quarot

end
-- ==== Proof.BlockOut.lean ====
/- The accumulated integer products of one grid point, and the three output blocks. -/
module

public import proofs.«01_k».proof.Proof.Scratchpads

@[expose] public section

noncomputable section

namespace Cert.Quarot

open Idealize.ShloMosaic Idealize.ShloMosaic.ValueIdx
open Cert.KernelIdeal Cert.KernelIdeal.Gen

/-! ## A sum over 3328 positions in four chunks -/

/-- The four chunks' sums together are the whole sum. -/
theorem sum_chunks (f : Fin 3328 → ℤ) :
    (∑ k : Fin 1024, f ⟨0 + k.val, by omega⟩) + (∑ k : Fin 1024, f ⟨1024 + k.val, by omega⟩)
      + (∑ k : Fin 1024, f ⟨2048 + k.val, by omega⟩) + (∑ k : Fin 256, f ⟨3072 + k.val, by omega⟩) = ∑ k : Fin 3328, f k := by
  obtain ⟨g, hg⟩ : ∃ g : Nat → ℤ, ∀ (k : Nat) (h : k < 3328), f ⟨k, h⟩ = g k :=
    ⟨fun i => if h : i < 3328 then f ⟨i, h⟩ else 0, fun k h => by simp only [h, dif_pos]⟩
  have hf : ∑ k : Fin 3328, f k = ∑ k : Fin 3328, g k.val := Finset.sum_congr rfl fun k _ => hg k.val k.isLt
  rw [hf]
  simp only [hg]
  have e0 := Finset.sum_range_add g (1024 + 1024 + 1024) 256
  have e1 := Finset.sum_range_add g (1024 + 1024) 1024
  have e2 := Finset.sum_range_add g 1024 1024
  rw [e1, e2] at e0
  rw [Fin.sum_univ_eq_sum_range (fun k => g (0 + k)), Fin.sum_univ_eq_sum_range (fun k => g (1024 + k)),
    Fin.sum_univ_eq_sum_range (fun k => g (2048 + k)), Fin.sum_univ_eq_sum_range (fun k => g (3072 + k)),
    Fin.sum_univ_eq_sum_range g]
  simp only [Nat.zero_add]
  exact e0.symm

/-! ## The loads -/

/-- A column range of a buffer written whole reads what was written. -/
theorem read_written {n : Nat} {e : EltTy} (arg : Memref sig .tc .vmem S256x3328 e) (w : S256x3328.Idx → Elt Ideal e)
    (inb0 : ∀ a, (![0, 0] : Fin 2 → Nat) a + S256x3328.size a ≤ S256x3328.size a)
    (o : Nat) (ho : o + n ≤ 3328) (inb : ∀ a, (![0, o] : Fin 2 → Nat) a + (![256, n] : Fin 2 → Nat) a ≤ S256x3328.size a)
    (p : Fin 256) (k : Fin n) :
    arg.view.readCov (Val := Elt Ideal) [⟨Rect.unit (s := S256x3328) ![0, 0] S256x3328.size inb0, w⟩]
      (Rect.unit (s := S256x3328) ![0, o] ![256, n] inb).toLoadRect (ix2 p k) = w (ix2 p ⟨o + k.val, by omega⟩) := by
  have hz : (![0, 0] : Fin S256x3328.rank → Nat) = fun _ => 0 := funext fun a => by fin_cases a <;> rfl
  rw [View.readCov_eq_canon', View.canon_unit_zero hz]
  refine congrArg w (funext fun a => Fin.ext ?_)
  match a with
  | ⟨0, _⟩ => exact (Rect.idx_unit_val (s := S256x3328) ![0, o] ![256, n] inb (ix2 p k) 0).trans (Nat.zero_add _)
  | ⟨1, _⟩ => exact Rect.idx_unit_val (s := S256x3328) ![0, o] ![256, n] inb (ix2 p k) 1

variable (c : Dev nD) (i : grid0.Coords) (arg1 : Memref sig .tc .vmem S256x3328 .bf16) (harg1 : arg1.IsWhole)
  (arg2 : Memref sig .tc .vmem S256x256 .bf16) (harg2 : arg2.IsWhole)
  (arg3 : Memref sig .tc .vmem S3328x1280 .i8) (harg3 : arg3.IsWhole) (arg4 : Memref sig .tc .vmem S1x1280 .f32) (harg4 : arg4.IsWhole)
  (arg5 : Memref sig .tc .vmem S256x1280 .bf16) (harg5 : arg5.IsWhole)
  (arg6 : Memref sig .tc .vmem S256x3328 .i8) (harg6 : arg6.IsWhole) (arg7 : Memref sig .tc .vmem S256x1 .f32) (harg7 : arg7.IsWhole)
  (arg8 : Memref sig .tc .vmem S256x3328 .f32) (harg8 : arg8.IsWhole) (arg9 : Memref sig .tc .vmem S256x1280 .i32) (harg9 : arg9.IsWhole)
  (x0 : Vec Ideal S256x3328 .bf16) (x1 : Vec Ideal S256x256 .bf16) (x2 : Vec Ideal S3328x1280 .i8) (x3 : Vec Ideal S1x1280 .f32)

/-- A row range of the weights. -/
theorem read_rows {n : Nat} (o : Nat) (ho : o + n ≤ 3328)
    (inb : ∀ a, (![o, 0] : Fin 2 → Nat) a + (![n, 1280] : Fin 2 → Nat) a ≤ S3328x1280.size a) (k : Fin n) (q : Fin 1280) :
    View.readAt (Elt Ideal) arg3.view (Rect.unit (s := S3328x1280) ![o, 0] ![n, 1280] inb).toLoadRect (harg3.unread x2) (ix2 k q)
      = x2 (ix2 ⟨o + k.val, by omega⟩ q) := by
  refine (harg3.readAt_unread x2 (Rect.unit (s := S3328x1280) ![o, 0] ![n, 1280] inb).toLoadRect (ix2 k q)).trans (congrArg x2 (funext fun a => Fin.ext ?_))
  match a with
  | ⟨0, _⟩ => exact Rect.idx_unit_val (s := S3328x1280) ![o, 0] ![n, 1280] inb (ix2 k q) 0
  | ⟨1, _⟩ => exact (Rect.idx_unit_val (s := S3328x1280) ![o, 0] ![n, 1280] inb (ix2 k q) 1).trans (Nat.zero_add _)

/-- The column scales. -/
theorem read_scales (inb : ∀ a, (![0, 0] : Fin 2 → Nat) a + S1x1280.size a ≤ S1x1280.size a) (q : Fin 1280) :
    View.readAt (Elt Ideal) arg4.view (Rect.unit (s := S1x1280) ![0, 0] S1x1280.size inb).toLoadRect (harg4.unread x3) (ix2 0 q)
      = x3 (ix2 0 q) := by
  refine (harg4.readAt_unread x3 (Rect.unit (s := S1x1280) ![0, 0] S1x1280.size inb).toLoadRect (ix2 0 q)).trans (congrArg x3 (funext fun a => Fin.ext ?_))
  match a with
  | ⟨0, _⟩ => exact (Rect.idx_unit_val (s := S1x1280) ![0, 0] S1x1280.size inb (ix2 0 q) 0).trans (Nat.zero_add _)
  | ⟨1, _⟩ => exact (Rect.idx_unit_val (s := S1x1280) ![0, 0] S1x1280.size inb (ix2 0 q) 1).trans (Nat.zero_add _)

/-! ## The codes read back chunk by chunk -/

variable (p : Fin 256)

/-- Any column range of the stored codes reads the codes. -/
theorem codes_read {n : Nat} (o : Nat) (ho : o + n ≤ 3328)
    (inb : ∀ a, (![0, o] : Fin 2 → Nat) a + (![256, n] : Fin 2 → Nat) a ≤ S256x3328.size a) (k : Fin n) :
    arg6.view.readCov (kernelRun0_A.sl.H5_1 (F := Ideal) c arg1 harg1 arg2 harg2 arg8 x0 x1)
      (Rect.unit (s := S256x3328) ![0, o] ![256, n] inb).toLoadRect (ix2 p k)
      = rowCode (krot (fun j => x0 (ix2 p j)) x1) ⟨o + k.val, by omega⟩ := by
  unfold kernelRun0_A.sl.H5_1
  refine (read_written arg6 _ inb_S256x3328_S256x3328_0_0 o ho inb p k).trans ?_
  exact codes_apply c arg1 harg1 arg2 harg2 arg8 x0 x1 p _

/-- The sum of products of one chunk, from position `o`. -/
def part (n o : Nat) (ho : o + n ≤ 3328) (q : Fin 1280) : ℤ :=
  ∑ k : Fin n, (rowCode (krot (fun j => x0 (ix2 p j)) x1) ⟨o + k.val, by omega⟩).toInt * (x2 (ix2 ⟨o + k.val, by omega⟩ q)).toInt

/-- A chunk's product is the word of its sum of products: the codes and the weights it reads are the row's and the
    column's. -/
theorem part_eq {n : Nat} (o : Nat) (ho : o + n ≤ 3328) (q : Fin 1280) (l : (⟨2, ![256, n]⟩ : Shape).Idx → BitVec 8)
    (r : (⟨2, ![n, 1280]⟩ : Shape).Idx → BitVec 8)
    (hl : ∀ k : Fin n, l (ix2 p k) = rowCode (krot (fun j => x0 (ix2 p j)) x1) ⟨o + k.val, by omega⟩)
    (hr : ∀ k : Fin n, r (ix2 k q) = x2 (ix2 ⟨o + k.val, by omega⟩ q)) :
    (∑ k : Fin n, (l (ix2 p k)).toInt * (r (ix2 k q)).toInt) = part x0 x1 x2 p n o ho q :=
  Finset.sum_congr rfl fun k _ => by rw [hl, hr]

theorem bound {n : Nat} (o : Nat) (ho : o + n ≤ 3328) (l : (⟨2, ![256, n]⟩ : Shape).Idx → BitVec 8)
    (hl : ∀ k : Fin n, l (ix2 p k) = rowCode (krot (fun j => x0 (ix2 p j)) x1) ⟨o + k.val, by omega⟩) (k : Fin n) :
    (l (ix2 p k)).toInt.natAbs ≤ 127 := by
  rw [hl]; exact natAbs_codeOf _

/-- The first chunk's codes. -/
theorem chunk0 (k : Fin 1024) : kernelRun0_A.sl.v187 (F := Ideal) c arg1 harg1 arg2 harg2 arg6 arg8 x0 x1 (ix2 p k)
    = rowCode (krot (fun j => x0 (ix2 p j)) x1) ⟨0 + k.val, by omega⟩ :=
  codes_read c arg1 harg1 arg2 harg2 arg6 arg8 x0 x1 p 0 (by norm_num) inb_S256x3328_S256x1024_0_0 k

/-- The second chunk's codes. -/
theorem chunk1 (k : Fin 1024) : kernelRun0_A.sl.v194 (F := Ideal) c arg1 harg1 arg2 harg2 arg6 arg8 x0 x1 (ix2 p k)
    = rowCode (krot (fun j => x0 (ix2 p j)) x1) ⟨1024 + k.val, by omega⟩ :=
  codes_read c arg1 harg1 arg2 harg2 arg6 arg8 x0 x1 p 1024 (by norm_num) inb_S256x3328_S256x1024_0_1024 k

/-- The third chunk's codes. -/
theorem chunk2 (k : Fin 1024) : kernelRun0_A.sl.v203 (F := Ideal) c arg1 harg1 arg2 harg2 arg6 arg8 x0 x1 (ix2 p k)
    = rowCode (krot (fun j => x0 (ix2 p j)) x1) ⟨2048 + k.val, by omega⟩ :=
  codes_read c arg1 harg1 arg2 harg2 arg6 arg8 x0 x1 p 2048 (by norm_num) inb_S256x3328_S256x1024_0_2048 k

/-- The last chunk's codes. -/
theorem chunk3 (k : Fin 256) : kernelRun0_A.sl.v212 (F := Ideal) c arg1 harg1 arg2 harg2 arg6 arg8 x0 x1 (ix2 p k)
    = rowCode (krot (fun j => x0 (ix2 p j)) x1) ⟨3072 + k.val, by omega⟩ :=
  codes_read c arg1 harg1 arg2 harg2 arg6 arg8 x0 x1 p 3072 (by norm_num) inb_S256x3328_S256x256_0_3072 k

variable (q : Fin 1280)

/-- A load of the whole accumulator reads the last store to it. -/
theorem acc_read (w : S256x1280.Idx → Elt Ideal .i32) (L : List (View.Piece (Elt Ideal) S256x1280 .i32)) :
    arg9.view.readCov (Val := Elt Ideal) (⟨Rect.unit (s := S256x1280) ![0, 0] S256x1280.size inb_S256x1280_S256x1280_0_0, w⟩ :: L)
      (Rect.unit (s := S256x1280) ![0, 0] S256x1280.size inb_S256x1280_S256x1280_0_0).toLoadRect = w :=
  View.readCov_cons_toLoadRect _ _ _ _

/-- The accumulator after the first chunk. -/
theorem acc0 : kernelRun0_A.sl.v198 (F := Ideal) c arg1 harg1 arg2 harg2 arg3 harg3 arg6 arg8 arg9 x0 x1 x2 (ix2 p q)
    = BitVec.ofInt 32 (part x0 x1 x2 p 1024 0 (by norm_num) q) := by
  have hl := chunk0 c arg1 harg1 arg2 harg2 arg6 arg8 x0 x1 p
  unfold kernelRun0_A.sl.v198 kernelRun0_A.sl.HS1_1
  rw [acc_read]
  refine (pay37_apply p q _ _ (bound x0 x1 p 0 (by norm_num) _ hl)).trans (congrArg (BitVec.ofInt 32) ?_)
  exact part_eq x0 x1 x2 p 0 (by norm_num) q _ _ hl fun k => read_rows arg3 harg3 x2 0 (by norm_num) inb_S3328x1280_S1024x1280_0_0 k q

/-- After the second. -/
theorem acc1 : kernelRun0_A.sl.v207 (F := Ideal) c arg1 harg1 arg2 harg2 arg3 harg3 arg6 arg8 arg9 x0 x1 x2 (ix2 p q)
    = BitVec.ofInt 32 (part x0 x1 x2 p 1024 0 (by norm_num) q) + BitVec.ofInt 32 (part x0 x1 x2 p 1024 1024 (by norm_num) q) := by
  have hl := chunk1 c arg1 harg1 arg2 harg2 arg6 arg8 x0 x1 p
  unfold kernelRun0_A.sl.v207 kernelRun0_A.sl.HS1_2
  rw [acc_read]
  rw [pay39_eq]
  unfold kernelRun0_A.sl.r_10
  refine (pay38_apply p q _ _ _ (bound x0 x1 p 1024 (by norm_num) _ hl)).trans ?_
  refine congrArg₂ (· + ·) (acc0 c arg1 harg1 arg2 harg2 arg3 harg3 arg6 arg8 arg9 x0 x1 x2 p q) (congrArg (BitVec.ofInt 32) ?_)
  exact part_eq x0 x1 x2 p 1024 (by norm_num) q _ _ hl fun k => read_rows arg3 harg3 x2 1024 (by norm_num) inb_S3328x1280_S1024x1280_1024_0 k q

/-- After the third. -/
theorem acc2 : kernelRun0_A.sl.v216 (F := Ideal) c arg1 harg1 arg2 harg2 arg3 harg3 arg6 arg8 arg9 x0 x1 x2 (ix2 p q)
    = BitVec.ofInt 32 (part x0 x1 x2 p 1024 0 (by norm_num) q) + BitVec.ofInt 32 (part x0 x1 x2 p 1024 1024 (by norm_num) q)
      + BitVec.ofInt 32 (part x0 x1 x2 p 1024 2048 (by norm_num) q) := by
  have hl := chunk2 c arg1 harg1 arg2 harg2 arg6 arg8 x0 x1 p
  unfold kernelRun0_A.sl.v216 kernelRun0_A.sl.HS1_3
  rw [acc_read]
  refine (pay40_apply p q _ _ _ (bound x0 x1 p 2048 (by norm_num) _ hl)).trans ?_
  refine congrArg₂ (· + ·) (acc1 c arg1 harg1 arg2 harg2 arg3 harg3 arg6 arg8 arg9 x0 x1 x2 p q) (congrArg (BitVec.ofInt 32) ?_)
  exact part_eq x0 x1 x2 p 2048 (by norm_num) q _ _ hl fun k => read_rows arg3 harg3 x2 2048 (by norm_num) inb_S3328x1280_S1024x1280_2048_0 k q

/-- After the last: the word of the exact sum over all 3328 positions. -/
theorem acc_apply : kernelRun0_A.sl.v221 (F := Ideal) c arg1 harg1 arg2 harg2 arg3 harg3 arg6 arg8 arg9 x0 x1 x2 (ix2 p q)
    = rowAcc (krot (fun j => x0 (ix2 p j)) x1) (fun k => x2 (ix2 k q)) := by
  have hl := chunk3 c arg1 harg1 arg2 harg2 arg6 arg8 x0 x1 p
  unfold kernelRun0_A.sl.v221 kernelRun0_A.sl.HS1_4
  rw [acc_read]
  refine (pay41_apply p q _ _ _ (bound x0 x1 p 3072 (by norm_num) _ hl)).trans ?_
  refine (congrArg₂ (· + ·) (acc2 c arg1 harg1 arg2 harg2 arg3 harg3 arg6 arg8 arg9 x0 x1 x2 p q) (congrArg (BitVec.ofInt 32)
    (part_eq x0 x1 x2 p 3072 (by norm_num) q _ _ hl fun k =>
      read_rows arg3 harg3 x2 3072 (by norm_num) inb_S3328x1280_S256x1280_3072_0 k q))).trans ?_
  refine ((congrArg (· + _) ((congrArg (· + _) (BitVec.ofInt_add _ _).symm).trans (BitVec.ofInt_add _ _).symm)).trans
    (BitVec.ofInt_add _ _).symm).trans ?_
  exact congrArg (BitVec.ofInt 32)
    (sum_chunks fun k => (rowCode (krot (fun j => x0 (ix2 p j)) x1) k).toInt * (x2 (ix2 k q)).toInt)

/-! ## The three output blocks -/

/-- The block of outputs. -/
theorem out4_apply :
    out0_A_4 (F := Ideal) c i arg1 harg1 arg2 harg2 arg3 harg3 arg4 harg4 arg5 harg5 arg6 harg6 arg7 harg7 arg8 harg8 arg9 harg9
      x0 x1 x2 x3 (ix2 p q)
      = rowOut (krot (fun j => x0 (ix2 p j)) x1) (fun k => x2 (ix2 k q)) (x3 (ix2 0 q)) := by
  have hz : (![0, 0] : Fin S256x1280.rank → Nat) = fun _ => 0 := funext fun a => by fin_cases a <;> rfl
  unfold out0_A_4
  rw [View.read_writes_junk_eq_canon]
  unfold kernelRun0_A
  dsimp only
  rw [View.canon_unit_zero hz]
  unfold kernelRun0_A.sl.r_11
  refine (pay42_apply _ _ _ p q).trans ?_
  rw [acc_apply, scale_apply, read_scales]
  rfl

/-- The block of codes. -/
theorem out5_apply (j : Fin 3328) :
    out0_A_5 (F := Ideal) c i arg1 harg1 arg2 harg2 arg3 harg3 arg4 harg4 arg5 harg5 arg6 harg6 arg7 harg7 arg8 harg8 arg9 harg9
      x0 x1 x2 x3 (ix2 p j)
      = rowCode (krot (fun j => x0 (ix2 p j)) x1) j := by
  have hz : (![0, 0] : Fin S256x3328.rank → Nat) = fun _ => 0 := funext fun a => by fin_cases a <;> rfl
  unfold out0_A_5
  rw [View.read_writes_junk_eq_canon]
  unfold kernelRun0_A
  dsimp only
  unfold kernelRun0_A.sl.H5_1
  rw [View.canon_unit_zero hz, codes_apply]

/-- The block of row scales. -/
theorem out6_apply :
    out0_A_6 (F := Ideal) c i arg1 harg1 arg2 harg2 arg3 harg3 arg4 harg4 arg5 harg5 arg6 harg6 arg7 harg7 arg8 harg8 arg9 harg9
      x0 x1 x2 x3 (ix2 p 0)
      = rowScale (krot (fun j => x0 (ix2 p j)) x1) := by
  have hz : (![0, 0] : Fin S256x1.rank → Nat) = fun _ => 0 := funext fun a => by fin_cases a <;> rfl
  unfold out0_A_6
  rw [View.read_writes_junk_eq_canon]
  unfold kernelRun0_A
  dsimp only
  rw [View.canon_unit_zero hz]
  exact scale_apply c arg1 harg1 arg2 harg2 x0 x1 p

end Cert.Quarot

end
-- ==== Proof.Arrays.lean ====
/- The kernel's three result arrays after the run, entry by entry, from the arrays its pipeline finds. -/
module

public import proofs.«01_k».proof.Proof.BlockOut
public import proofs.«01_k».proof.Proof.Gen.KernelIdeal.Value

@[expose] public section

noncomputable section

namespace Cert.Quarot

open Idealize.ShloMosaic Idealize.ShloMosaic.ValueIdx Idealize.ShloMosaic.TcCoe Idealize.SL.Sem
open Cert.KernelIdeal Cert.KernelIdeal.Gen Cert.KernelIdeal.Value

/-! ## What the whole arrays are -/

/-- All outputs, from the rows `x`, the sign table `t`, the weights `w` and the column scales `s`. -/
def outs (x : S2304x3328.Idx → EReal) (t : S256x256.Idx → EReal) (w : S3328x1280.Idx → BitVec 8) (s : S1x1280.Idx → EReal) :
    S2304x1280.Idx → EReal := fun i =>
  rowOut (krot (fun j => x (ix2 (i 0) j)) t) (fun k => w (ix2 k (i 1))) (s (ix2 0 (i 1)))

/-- All codes. -/
def codes (x : S2304x3328.Idx → EReal) (t : S256x256.Idx → EReal) : S2304x3328.Idx → BitVec 8 := fun i =>
  rowCode (krot (fun j => x (ix2 (i 0) j)) t) (i 1)

/-- All row scales. -/
def scales (x : S2304x3328.Idx → EReal) (t : S256x256.Idx → EReal) : S2304x1.Idx → EReal := fun i =>
  rowScale (krot (fun j => x (ix2 (i 0) j)) t)

/-! ## Where a block's entries lie -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

/-- Grid point `t`'s row `p` is row `256 t + p` of the whole array. -/
theorem row_lt (t : Fin cfg0.N) (p : Fin 256) : t.val * 256 + p.val < 2304 := by
  have h : t.val < 9 := lt_of_lt_of_eq t.isLt (by decide +kernel : grid0.N = 9)
  omega

theorem emb0 (t : Fin cfg0.N) (p : Fin 256) (j : Fin 3328) :
    ((cfg0.win 0).blk t).view.emb (ix2 p j) = (ix2 ⟨t.val * 256 + p.val, row_lt t p⟩ j : S2304x3328.Idx) := by
  obtain ⟨e0, e1⟩ := idx0 t
  funext a; apply Fin.ext
  match a with
  | ⟨0, _⟩ => show win0_0.index t (0 : Fin 2) * 256 + 1 * p.val = t.val * 256 + p.val; omega
  | ⟨1, _⟩ => show win0_0.index t (1 : Fin 2) * 3328 + 1 * j.val = j.val; omega

theorem emb1 (t : Fin cfg0.N) (p j : Fin 256) : ((cfg0.win 1).blk t).view.emb (ix2 p j) = (ix2 p j : S256x256.Idx) := by
  obtain ⟨e0, e1⟩ := idx1 t
  funext a; apply Fin.ext
  match a with
  | ⟨0, _⟩ => show win0_1.index t (0 : Fin 2) * 256 + 1 * p.val = p.val; omega
  | ⟨1, _⟩ => show win0_1.index t (1 : Fin 2) * 256 + 1 * j.val = j.val; omega

theorem emb2 (t : Fin cfg0.N) (k : Fin 3328) (q : Fin 1280) : ((cfg0.win 2).blk t).view.emb (ix2 k q) = (ix2 k q : S3328x1280.Idx) := by
  obtain ⟨e0, e1⟩ := idx2 t
  funext a; apply Fin.ext
  match a with
  | ⟨0, _⟩ => show win0_2.index t (0 : Fin 2) * 3328 + 1 * k.val = k.val; omega
  | ⟨1, _⟩ => show win0_2.index t (1 : Fin 2) * 1280 + 1 * q.val = q.val; omega

theorem emb3 (t : Fin cfg0.N) (q : Fin 1280) : ((cfg0.win 3).blk t).view.emb (ix2 (0 : Fin 1) q) = (ix2 0 q : S1x1280.Idx) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 1280 + 1 * q.val = q.val; omega

theorem emb4 (t : Fin cfg0.N) (p : Fin 256) (q : Fin 1280) :
    ((cfg0.win 4).blk t).view.emb (ix2 p q) = (ix2 ⟨t.val * 256 + p.val, row_lt t p⟩ q : S2304x1280.Idx) := by
  obtain ⟨e0, e1⟩ := idx4 t
  funext a; apply Fin.ext
  match a with
  | ⟨0, _⟩ => show win0_4.index t (0 : Fin 2) * 256 + 1 * p.val = t.val * 256 + p.val; omega
  | ⟨1, _⟩ => show win0_4.index t (1 : Fin 2) * 1280 + 1 * q.val = q.val; omega

theorem emb5 (t : Fin cfg0.N) (p : Fin 256) (j : Fin 3328) :
    ((cfg0.win 5).blk t).view.emb (ix2 p j) = (ix2 ⟨t.val * 256 + p.val, row_lt t p⟩ j : S2304x3328.Idx) := by
  obtain ⟨e0, e1⟩ := idx5 t
  funext a; apply Fin.ext
  match a with
  | ⟨0, _⟩ => show win0_5.index t (0 : Fin 2) * 256 + 1 * p.val = t.val * 256 + p.val; omega
  | ⟨1, _⟩ => show win0_5.index t (1 : Fin 2) * 3328 + 1 * j.val = j.val; omega

theorem emb6 (t : Fin cfg0.N) (p : Fin 256) :
    ((cfg0.win 6).blk t).view.emb (ix2 p (0 : Fin 1)) = (ix2 ⟨t.val * 256 + p.val, row_lt t p⟩ 0 : S2304x1.Idx) := by
  obtain ⟨e0, e1⟩ := idx6 t
  funext a; apply Fin.ext
  match a with
  | ⟨0, _⟩ => show win0_6.index t (0 : Fin 2) * 256 + 1 * p.val = t.val * 256 + p.val; omega
  | ⟨1, _⟩ => show win0_6.index t (1 : Fin 2) * 1 + 1 * 0 = 0; omega

/-! ## The input blocks -/

variable (m : (ℓ : Loc nD τ sig) → Buf (Elt Ideal) ℓ) (c : Dev nD) (t : Fin cfg0.N)

theorem iblk0_apply (p : Fin 256) (j : Fin 3328) :
    iblk m c 0 t (ix2 p j) = V m c main_v0 (ix2 ⟨t.val * 256 + p.val, row_lt t p⟩ j) :=
  congrArg (V m c main_v0) (emb0 t p j)

theorem iblk1_eq : iblk m c 1 t = V m c main_cst := by
  funext y
  obtain ⟨p, j, rfl⟩ : ∃ (p j : Fin 256), y = (ix2 p j : S256x256.Idx) := ⟨y 0, y 1, eq_ix2 y⟩
  exact congrArg (V m c main_cst) (emb1 t p j)

theorem iblk2_apply (k : Fin 3328) (q : Fin 1280) : iblk m c 2 t (ix2 k q) = V m c main_arg1 (ix2 k q) :=
  congrArg (V m c main_arg1) (emb2 t k q)

theorem iblk3_apply (q : Fin 1280) : iblk m c 3 t (ix2 (0 : Fin 1) q) = V m c main_v1 (ix2 0 q) :=
  congrArg (V m c main_v1) (emb3 t q)

/-! ## What each grid point writes back -/

theorem flushed4_eq : (dats m 0 c).flushed 4 t = ((cfg0.win 4).blk t).view.read (Elt Ideal)
    (outs (V m c main_v0) (V m c main_cst) (V m c main_arg1) (V m c main_v1)) := by
  rw [flushed4_A]
  funext y
  obtain ⟨p, q, rfl⟩ : ∃ (p : Fin 256) (q : Fin 1280), y = (ix2 p q : S256x1280.Idx) := ⟨y 0, y 1, eq_ix2 y⟩
  refine (out4_apply c _ _ _ _ _ _ _ _ _ _ _ _ _ _ _ _ _ _ _ (iblk m c 0 t) (iblk m c 1 t) (iblk m c 2 t) (iblk m c 3 t) p q).trans ?_
  refine Eq.trans ?_ (congrArg (outs (V m c main_v0) (V m c main_cst) (V m c main_arg1) (V m c main_v1)) (emb4 t p q)).symm
  rw [iblk1_eq, iblk3_apply]
  exact congrArg₂ (fun v w => rowOut (krot v (V m c main_cst)) w (V m c main_v1 (ix2 0 q)))
    (funext fun j => iblk0_apply m c t p j) (funext fun k => iblk2_apply m c t k q)

theorem flushed5_eq : (dats m 0 c).flushed 5 t = ((cfg0.win 5).blk t).view.read (Elt Ideal)
    (codes (V m c main_v0) (V m c main_cst)) := by
  rw [flushed5_A]
  funext y
  obtain ⟨p, j, rfl⟩ : ∃ (p : Fin 256) (j : Fin 3328), y = (ix2 p j : S256x3328.Idx) := ⟨y 0, y 1, eq_ix2 y⟩
  refine (out5_apply c _ _ _ _ _ _ _ _ _ _ _ _ _ _ _ _ _ _ _ (iblk m c 0 t) (iblk m c 1 t) (iblk m c 2 t) (iblk m c 3 t) p j).trans ?_
  refine Eq.trans ?_ (congrArg (codes (V m c main_v0) (V m c main_cst)) (emb5 t p j)).symm
  rw [iblk1_eq]
  exact congrArg (fun v => rowCode (krot v (V m c main_cst)) j) (funext fun j => iblk0_apply m c t p j)

theorem flushed6_eq : (dats m 0 c).flushed 6 t = ((cfg0.win 6).blk t).view.read (Elt Ideal)
    (scales (V m c main_v0) (V m c main_cst)) := by
  rw [flushed6_A]
  funext y
  obtain ⟨p, z, rfl⟩ : ∃ (p : Fin 256) (z : Fin 1), y = (ix2 p z : S256x1.Idx) := ⟨y 0, y 1, eq_ix2 y⟩
  obtain rfl : z = 0 := Subsingleton.elim _ _
  refine (out6_apply c _ _ _ _ _ _ _ _ _ _ _ _ _ _ _ _ _ _ _ (iblk m c 0 t) (iblk m c 1 t) (iblk m c 2 t) (iblk m c 3 t) p).trans ?_
  refine Eq.trans ?_ (congrArg (scales (V m c main_v0) (V m c main_cst)) (emb6 t p)).symm
  rw [iblk1_eq]
  exact congrArg (fun v => rowScale (krot v (V m c main_cst))) (funext fun j => iblk0_apply m c t p j)

/-! ## The whole arrays: the grid points' blocks cover them -/

/-- The grid point whose block holds row `r`. -/
def point (r : Fin 2304) : Fin cfg0.N :=
  ⟨r.val / 256, lt_of_lt_of_eq (by omega : r.val / 256 < 9) (by decide +kernel : 9 = grid0.N)⟩

theorem row_eq (r : Fin 2304) (h : (point r).val * 256 + r.val % 256 < 2304) : (⟨(point r).val * 256 + r.val % 256, h⟩ : Fin 2304) = r :=
  Fin.ext (by show r.val / 256 * 256 + r.val % 256 = r.val; omega)

theorem final4 : (dats m 0 c).arrAt 4 cfg0.N = outs (V m c main_v0) (V m c main_cst) (V m c main_arg1) (V m c main_v1) :=
  (dats m 0 c).arrAt_eq_of_cover 4 _ (fun t _ => flushed4_eq m c t) fun i => by
    obtain ⟨r, q, rfl⟩ : ∃ (r : Fin 2304) (q : Fin 1280), i = (ix2 r q : S2304x1280.Idx) := ⟨i 0, i 1, eq_ix2 i⟩
    refine ⟨point r, flush0_4 _, ?_⟩
    have h := ((cfg0.win 4).blk (point r)).view.emb_mem_set (ix2 (⟨r.val % 256, Nat.mod_lt _ (by norm_num)⟩ : Fin 256) q)
    rw [emb4, row_eq] at h
    exact h

theorem final5 : (dats m 0 c).arrAt 5 cfg0.N = codes (V m c main_v0) (V m c main_cst) :=
  (dats m 0 c).arrAt_eq_of_cover 5 _ (fun t _ => flushed5_eq m c t) fun i => by
    obtain ⟨r, q, rfl⟩ : ∃ (r : Fin 2304) (q : Fin 3328), i = (ix2 r q : S2304x3328.Idx) := ⟨i 0, i 1, eq_ix2 i⟩
    refine ⟨point r, flush0_5 _, ?_⟩
    have h := ((cfg0.win 5).blk (point r)).view.emb_mem_set (ix2 (⟨r.val % 256, Nat.mod_lt _ (by norm_num)⟩ : Fin 256) q)
    rw [emb5, row_eq] at h
    exact h

theorem final6 : (dats m 0 c).arrAt 6 cfg0.N = scales (V m c main_v0) (V m c main_cst) :=
  (dats m 0 c).arrAt_eq_of_cover 6 _ (fun t _ => flushed6_eq m c t) fun i => by
    obtain ⟨r, q, rfl⟩ : ∃ (r : Fin 2304) (q : Fin 1), i = (ix2 r q : S2304x1.Idx) := ⟨i 0, i 1, eq_ix2 i⟩
    obtain rfl : q = 0 := Subsingleton.elim _ _
    refine ⟨point r, flush0_6 _, ?_⟩
    have h := ((cfg0.win 6).blk (point r)).view.emb_mem_set (ix2 (⟨r.val % 256, Nat.mod_lt _ (by norm_num)⟩ : Fin 256) (0 : Fin 1))
    rw [emb6, row_eq] at h
    exact h

end Cert.Quarot

end
-- ==== Proof.Table.lean ====
/- The two tables of constants, each word by a formula. The kernel's 256 × 256 table is two copies of the 128 × 128
   Hadamard sign matrix on the diagonal with zeros off it; the reference's 128 × 128 table is that matrix scaled. A sign
   is negative where the row's and the column's binary digits meet in an odd number of ones. -/
module

public import proofs.«01_k».proof.KernelIdeal
public import proofs.«01_k».proof.ReferenceIdeal
public import Idealize.ShloMosaic.Lib.Tactic
public import Mathlib.Tactic.IntervalCases

@[expose] public section

set_option maxRecDepth 100000

namespace Cert.Quarot

/-- The word at one digit below 128, by cases: the form in which the tables below are written. -/
noncomputable def sel16 (a : Nat → BitVec 16) (x : Nat) : BitVec 16 := match x with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0#16

/-- It is the function it selects from. -/
theorem sel16_eq (a : Nat → BitVec 16) (x : Nat) (hx : x < 128) : sel16 a x = a x := by
  interval_cases x <;> rfl

/-- The word at one digit below 128, by cases: the form in which the tables below are written. -/
noncomputable def sel32 (a : Nat → BitVec 32) (x : Nat) : BitVec 32 := match x with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0#32

/-- It is the function it selects from. -/
theorem sel32_eq (a : Nat → BitVec 32) (x : Nat) (hx : x < 128) : sel32 a x = a x := by
  interval_cases x <;> rfl

/-- Whether the sign at row `k`, column `j` is negative. -/
def neg (k j : Nat) : Bool :=
  let m := k &&& j
  m.testBit 0 ^^ m.testBit 1 ^^ m.testBit 2 ^^ m.testBit 3 ^^ m.testBit 4 ^^ m.testBit 5 ^^ m.testBit 6

/-- The reference's word at row `k`, column `j`. -/
def refWord (k j : Nat) : BitVec 32 := bif neg k j then 0xBDB504F3#32 else 0x3DB504F3#32

/-- The kernel's word in half row `r` (row `r / 2`, columns from `128 * (r % 2)`) at column `j` of the half: a sign inside
    a diagonal block, a zero with that sign off it. -/
def kerWord (r j : Nat) : BitVec 16 :=
  bif (r / 256).beq (r % 2) then (bif neg (r / 2 % 128) j then 0xBF80#16 else 0x3F80#16)
  else (bif neg (r / 2 % 128) j then 0x8000#16 else 0#16)

/-- The reference's table as selections among `refWord`s. -/
theorem ref_sel (i : Nat) : Cert.ReferenceIdeal.lit0t i = sel32 (fun r => sel32 (refWord r) (i % 128)) (i / 128) := by
  sl_kernel_rfl

theorem ker_sel0 (i : Nat) :
    Cert.KernelIdeal.lit0t1_0 i = sel16 (fun d => sel16 (kerWord (0 + d)) (i % 128)) (i / 128 % 128) := by
  sl_kernel_rfl

theorem ker_sel1 (i : Nat) :
    Cert.KernelIdeal.lit0t1_1 i = sel16 (fun d => sel16 (kerWord (128 + d)) (i % 128)) (i / 128 % 128) := by
  sl_kernel_rfl

theorem ker_sel2 (i : Nat) :
    Cert.KernelIdeal.lit0t1_2 i = sel16 (fun d => sel16 (kerWord (256 + d)) (i % 128)) (i / 128 % 128) := by
  sl_kernel_rfl

theorem ker_sel3 (i : Nat) :
    Cert.KernelIdeal.lit0t1_3 i = sel16 (fun d => sel16 (kerWord (384 + d)) (i % 128)) (i / 128 % 128) := by
  sl_kernel_rfl

/-- The reference's table entry by entry. -/
theorem ref_lit (k j : Nat) (hk : k < 128) (hj : j < 128) : Cert.ReferenceIdeal.lit0t (k * 128 + j) = refWord k j := by
  rw [ref_sel, show (k * 128 + j) / 128 = k by omega, show (k * 128 + j) % 128 = j by omega, sel32_eq _ _ hk, sel32_eq _ _ hj]

/-- The kernel's table by half rows. -/
theorem ker_lit (r j : Nat) (hr : r < 512) (hj : j < 128) : Cert.KernelIdeal.lit0t (r * 128 + j) = kerWord r j := by
  have h0 : (r * 128 + j) / 128 % 128 = r % 128 := by omega
  have h1 : (r * 128 + j) % 128 = j := by omega
  have h2 : (r * 128 + j) / 16384 = r / 128 := by omega
  have h3 : r % 128 < 128 := Nat.mod_lt _ (by decide)
  have e : r = 128 * (r / 128) + r % 128 := (Nat.div_add_mod r 128).symm
  unfold Cert.KernelIdeal.lit0t
  rw [ker_sel0, ker_sel1, ker_sel2, ker_sel3, h0, h1, h2]
  simp only [sel16_eq _ _ h3, sel16_eq _ _ hj]
  have hq : r / 128 < 4 := by omega
  generalize hqd : r / 128 = q at *
  interval_cases q
  · exact congrArg (kerWord · j) (by omega)
  · exact congrArg (kerWord · j) (by omega)
  · exact congrArg (kerWord · j) (by omega)
  · exact congrArg (kerWord · j) (by omega)

end Cert.Quarot
-- ==== Proof.Rotation.lean ====
/- The kernel rotates 256 columns at a time by a table of two diagonal sign blocks and scales afterwards; the reference
   rotates 128 columns at a time by a table of signed scales. The two give the same row. -/
module

public import proofs.«01_k».proof.Proof.Table
public import proofs.«01_k».proof.Proof.Block
public import Idealize.ShloMosaic.Lib.IdealHost

@[expose] public section

noncomputable section

namespace Cert.Quarot

open Idealize.ShloMosaic Idealize.ShloMosaic.ValueIdx

/-- The reference's rotation of a row: entry `j` is the product of the row's group of 128 that holds `j` with column
    `j % 128` of the table. -/
def rrot (x : Fin 3328 → EReal) (h : (⟨2, ![128, 128]⟩ : Shape).Idx → EReal) (j : Fin 3328) : EReal :=
  ∑ i : Fin 128, x ⟨128 * (j.val / 128) + i.val, by omega⟩ * h (ix2 i ⟨j.val % 128, Nat.mod_lt _ (by norm_num)⟩)

/-- The kernel's table. -/
def kerTable : Cert.KernelIdeal.S256x256.Idx → EReal :=
  fun i => Ideal.ofBits .bf16 (Cert.KernelIdeal.lit0 (Cert.KernelIdeal.S256x256.rowMajor i))

/-- The reference's table. -/
def refTable : Cert.ReferenceIdeal.S128x128.Idx → EReal :=
  fun i => Ideal.ofBits .f32 (Cert.ReferenceIdeal.lit0 (Cert.ReferenceIdeal.S128x128.rowMajor i))

/-! ## The constants -/

/-- The scale is a nonnegative real. -/
theorem hadC_real : ∃ r : ℝ, 0 ≤ r ∧ hadC = (r : EReal) := by
  refine ⟨11863283 * (2 ^ 27)⁻¹, by positivity, ?_⟩
  rw [EReal.coe_mul]
  simp [hadC, Ideal.ofBits, Ideal.ieee]

theorem hadC_nonneg : 0 ≤ hadC := by
  obtain ⟨r, h, e⟩ := hadC_real
  rw [e]; exact EReal.coe_nonneg.mpr h

theorem hadC_ne_top : hadC ≠ ⊤ := by
  obtain ⟨r, -, e⟩ := hadC_real
  rw [e]; exact EReal.coe_ne_top r

theorem ofBits_neg_had : Ideal.ofBits .f32 0xBDB504F3#32 = -hadC := by
  simp [hadC, Ideal.ofBits, Ideal.ieee]

theorem ofBits_neg_zero : Ideal.ofBits .bf16 0x8000#16 = 0 := by
  simp [Ideal.ofBits, Ideal.ieee]

/-- A sum times the scale, term by term: the scale is a nonnegative real. -/
theorem sum_mul_hadC {n : Nat} (f : Fin n → EReal) : (∑ k, f k) * hadC = ∑ k, f k * hadC := by
  have h : ∀ s : Finset (Fin n), (∑ k ∈ s, f k) * hadC = ∑ k ∈ s, f k * hadC := fun s => by
    induction s using Finset.induction_on with
    | empty => simp
    | insert a s ha ih => rw [Finset.sum_insert ha, Finset.sum_insert ha, EReal.right_distrib_of_nonneg_of_ne_top hadC_nonneg hadC_ne_top, ih]
  exact h _

/-! ## The entries of the two tables -/

/-- An entry of the kernel's table: a sign on the two diagonal blocks of 128, a zero off them. -/
theorem kerTable_apply (k l : Fin 256) :
    kerTable (ix2 k l) = if k.val / 128 = l.val / 128 then (if neg (k.val % 128) (l.val % 128) then -1 else 1) else 0 := by
  have hr : 2 * k.val + l.val / 128 < 512 := by omega
  have hlit : Cert.KernelIdeal.lit0 (Cert.KernelIdeal.S256x256.rowMajor (ix2 k l)) = kerWord (2 * k.val + l.val / 128) (l.val % 128) := by
    have hv : (Cert.KernelIdeal.S256x256.rowMajor (ix2 k l)).val = (2 * k.val + l.val / 128) * 128 + l.val % 128 := by
      refine (Shape.rowMajor_val_two (ix2 k l)).trans ?_
      show k.val * 256 + l.val = _
      omega
    refine Eq.trans ?_ (ker_lit _ _ hr (Nat.mod_lt _ (by norm_num)))
    exact congrArg Cert.KernelIdeal.lit0t hv
  unfold kerTable
  rw [hlit]
  unfold kerWord
  have e1 : (2 * k.val + l.val / 128) / 256 = k.val / 128 := by omega
  have e2 : (2 * k.val + l.val / 128) % 2 = l.val / 128 := by omega
  have e3 : (2 * k.val + l.val / 128) / 2 % 128 = k.val % 128 := by omega
  rw [e1, e2, e3]
  by_cases hb : k.val / 128 = l.val / 128
  · rw [if_pos hb, hb, Nat.beq_refl]
    cases hn : neg (k.val % 128) (l.val % 128)
    · simpa using Ideal.ofBits_one_bf16
    · simpa using Ideal.ofBits_neg_one_bf16
  · rw [if_neg hb, show (k.val / 128).beq (l.val / 128) = false from Bool.eq_false_iff.mpr fun h => hb (Nat.eq_of_beq_eq_true h)]
    cases hn : neg (k.val % 128) (l.val % 128)
    · simpa using Ideal.ofBits_zero_bf16
    · simpa using ofBits_neg_zero

/-- An entry of the reference's table: the scale with a sign. -/
theorem refTable_apply (i j : Fin 128) : refTable (ix2 i j) = if neg i.val j.val then -hadC else hadC := by
  have hlit : Cert.ReferenceIdeal.lit0 (Cert.ReferenceIdeal.S128x128.rowMajor (ix2 i j)) = refWord i.val j.val := by
    refine Eq.trans ?_ (ref_lit _ _ i.isLt j.isLt)
    exact congrArg Cert.ReferenceIdeal.lit0t (Shape.rowMajor_val_two (ix2 i j))
  unfold refTable
  rw [hlit]
  unfold refWord
  cases hn : neg i.val j.val
  · rfl
  · simpa using ofBits_neg_had

/-! ## The two rotations -/

/-- A sum over 256 positions in two halves. -/
theorem sum_halves (f : Fin 256 → EReal) :
    (∑ k, f k) = (∑ i : Fin 128, f ⟨i.val, by omega⟩) + ∑ i : Fin 128, f ⟨128 + i.val, by omega⟩ :=
  Fin.sum_univ_add (a := 128) (b := 128) f

/-- The kernel's rotation of a row is the reference's. -/
theorem krot_eq (x : Fin 3328 → EReal) (j : Fin 3328) : krot x kerTable j = rrot x refTable j := by
  unfold krot rrot
  have hj : j.val % 256 / 128 = 0 ∨ j.val % 256 / 128 = 1 := by omega
  have hterm : ∀ (i : Fin 128) (a : EReal), (a * if neg i.val (j.val % 128) then -1 else 1) * hadC
      = a * refTable (ix2 i ⟨j.val % 128, Nat.mod_lt _ (by norm_num)⟩) := fun i a => by
    rw [refTable_apply]
    cases neg i.val (j.val % 128)
    · simp
    · simp [mul_assoc]
  rw [sum_halves]
  rcases hj with hj | hj
  · have h2 : (∑ i : Fin 128, x ⟨256 * (j.val / 256) + (128 + i.val), by omega⟩
        * kerTable (ix2 ⟨128 + i.val, by omega⟩ ⟨j.val % 256, Nat.mod_lt _ (by norm_num)⟩)) = 0 :=
      Finset.sum_eq_zero fun i _ => by
        rw [kerTable_apply, if_neg (by show ¬ (128 + i.val) / 128 = j.val % 256 / 128; omega), mul_zero]
    refine (congrArg (fun z => (_ + z) * hadC) h2).trans ?_
    rw [add_zero, sum_mul_hadC]
    refine Finset.sum_congr rfl fun i _ => ?_
    rw [kerTable_apply, if_pos (by show i.val / 128 = j.val % 256 / 128; omega)]
    have e1 : i.val % 128 = i.val := by omega
    have e2 : j.val % 256 % 128 = j.val % 128 := by omega
    have e3 : 256 * (j.val / 256) + i.val = 128 * (j.val / 128) + i.val := by omega
    simp only [e1, e2, e3]
    exact hterm i _
  · have h1 : (∑ i : Fin 128, x ⟨256 * (j.val / 256) + i.val, by omega⟩
        * kerTable (ix2 ⟨i.val, by omega⟩ ⟨j.val % 256, Nat.mod_lt _ (by norm_num)⟩)) = 0 :=
      Finset.sum_eq_zero fun i _ => by
        rw [kerTable_apply, if_neg (by show ¬ i.val / 128 = j.val % 256 / 128; omega), mul_zero]
    refine (congrArg (fun z => (z + _) * hadC) h1).trans ?_
    rw [zero_add, sum_mul_hadC]
    refine Finset.sum_congr rfl fun i _ => ?_
    rw [kerTable_apply, if_pos (by show (128 + i.val) / 128 = j.val % 256 / 128; omega)]
    have e1 : (128 + i.val) % 128 = i.val := by omega
    have e2 : j.val % 256 % 128 = j.val % 128 := by omega
    have e3 : 256 * (j.val / 256) + (128 + i.val) = 128 * (j.val / 128) + i.val := by omega
    simp only [e1, e2, e3]
    exact hterm i _

end Cert.Quarot

end
-- ==== Proof.KernelRun.lean ====
/- What the kernel's run leaves in its three results, from its arguments. -/
module

public import proofs.«01_k».proof.Proof.Arrays
public import proofs.«01_k».proof.Proof.Rotation

@[expose] public section

noncomputable section

namespace Cert.Quarot

open Idealize.ShloMosaic Idealize.ShloMosaic.ValueIdx Idealize.ShloMosaic.TcCoe Idealize.SL.Sem
open Cert.KernelIdeal Cert.KernelIdeal.Gen Cert.KernelIdeal.Value

/-- The rows, the argument's first two axes as one. -/
def rows (x : S3x768x3328.Idx → EReal) : S2304x3328.Idx → EReal := shapeCast S2304x3328 x shapeCasts_S3x768x3328_S2304x3328

/-- The column scales as one row. -/
def srow (s : S1280.Idx → EReal) : S1x1280.Idx → EReal := shapeCast S1x1280 s shapeCasts_S1280_S1x1280

variable (m : (ℓ : Loc nD τ sig) → Buf (Elt Ideal) ℓ) (c : Dev nD)

theorem entry_rows : V m c main_v0 = rows (m ((c : Thread nD τ).loc main_arg0)) := by
  show StableHlo.after hostOps0 (fun b => m (c, b)) (Proc.devRef .tc main_v0) = _
  after_results
  rfl

theorem entry_table : V m c main_cst = kerTable := by
  show StableHlo.after hostOps0 (fun b => m (c, b)) (Proc.devRef .tc main_cst) = _
  after_results
  rfl

theorem entry_scales : V m c main_v1 = srow (m ((c : Thread nD τ).loc main_arg2)) := by
  show StableHlo.after hostOps0 (fun b => m (c, b)) (Proc.devRef .tc main_v1) = _
  after_results
  rfl

/-- The kernel runs, its results are the outputs, the codes and the scales of its arguments, and its arguments are unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v2_0) = outs (rows (m ((c : Thread nD τ).loc main_arg0))) kerTable
          (m ((c : Thread nD τ).loc main_arg1)) (srow (m ((c : Thread nD τ).loc main_arg2)))
      ∧ r.2.mem ((c : Thread nD τ).loc main_v2_1) = codes (rows (m ((c : Thread nD τ).loc main_arg0))) kerTable
      ∧ r.2.mem ((c : Thread nD τ).loc main_v2_2) = scales (rows (m ((c : Thread nD τ).loc main_arg0))) kerTable
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by rw [final4, entry_rows, entry_table, entry_scales, V_main_arg1]),
    (h c).2.1.trans (by rw [final5, entry_rows, entry_table]), (h c).2.2.1.trans (by rw [final6, entry_rows, entry_table]),
    (h c).2.2.2⟩) (run_blocks m ρ)

end Cert.Quarot

end
-- ==== Proof.RefRotation.lean ====
/- The rows the reference quantises: its host lines before the quantiser rotate each group of 128 columns by the table. -/
module

public import proofs.«01_k».proof.Proof.KernelRun
public import proofs.«01_k».proof.Proof.Gen.ReferenceIdeal.Frame

@[expose] public section

noncomputable section

namespace Cert.Quarot

open Idealize.ShloMosaic Idealize.ShloMosaic.ValueIdx Idealize.ShloMosaic.TcCoe Idealize.SL.Sem
open Cert.ReferenceIdeal Cert.ReferenceIdeal.Gen

/-- The groups of 128 columns times the table: each entry is a sum over its group. -/
theorem refDot_apply (x : FVec Ideal S3x768x26x128 .f32) (h : FVec Ideal S128x128 .f32) (b : Fin 3) (s : Fin 768) (g : Fin 26) (l : Fin 128) :
    Host.dotGeneral dot_S3x768x26x128_S128x128_S3x768x26x128_3_0_012_1_n_n none x h (ix4 b s g l)
      = ∑ i : Fin 128, x (ix4 b s g i) * h (ix2 i l) := by
  show FloatOps.dotGeneral (F := Ideal) _ _ _ _ _ _ = _
  rw [Ideal.dotGeneral_apply, ← Equiv.sum_comp (contrEquiv1 dot_S3x768x26x128_S128x128_S3x768x26x128_3_0_012_1_n_n 128 rfl rfl).symm]
  refine Finset.sum_congr rfl fun k _ => ?_
  have hk := contrEquiv1_symm_val dot_S3x768x26x128_S128x128_S3x768x26x128_3_0_012_1_n_n 128 rfl rfl k
  refine congrArg₂ (fun a b => x a * h b) ?_ ?_
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => exact hk
    | ⟨1, _⟩ => rfl

/-- The rotated rows as the host lines make them: columns split in groups, the product, and the shape put back. -/
def rotated (x : FVec Ideal S3x768x3328 .f32) (h : FVec Ideal S128x128 .f32) : FVec Ideal S2304x3328 .f32 :=
  shapeCast S2304x3328 (shapeCast S3x768x3328
    (Host.dotGeneral dot_S3x768x26x128_S128x128_S3x768x26x128_3_0_012_1_n_n none
      (shapeCast S3x768x26x128 x shapeCasts_S3x768x3328_S3x768x26x128 : FVec Ideal S3x768x26x128 .f32) h : FVec Ideal S3x768x26x128 .f32)
    shapeCasts_S3x768x26x128_S3x768x3328) shapeCasts_S3x768x3328_S2304x3328

/-- Row `r` is row `r % 768` of batch `r / 768`. -/
theorem rows_apply (x : S3x768x3328.Idx → EReal) (r : Fin 2304) (j : Fin 3328) :
    rows x (ix2 r j) = x (ix3 ⟨r.val / 768, by omega⟩ ⟨r.val % 768, Nat.mod_lt _ (by norm_num)⟩ j) := by
  refine shapeCast_apply _ _ _ _ ?_
  rw [Shape.rowMajor_val_three, Shape.rowMajor_val_two]
  show (r.val / 768 * 768 + r.val % 768) * 3328 + j.val = r.val * 3328 + j.val
  omega

/-- An entry of the rotated rows is that of its row's rotation. -/
theorem rotated_apply (x : FVec Ideal S3x768x3328 .f32) (h : FVec Ideal S128x128 .f32) (r : Fin 2304) (j : Fin 3328) :
    rotated x h (ix2 r j) = rrot (fun j => rows x (ix2 r j)) h j := by
  have h1 : rotated x h (ix2 r j) = shapeCast S3x768x3328
      (Host.dotGeneral dot_S3x768x26x128_S128x128_S3x768x26x128_3_0_012_1_n_n none
        (shapeCast S3x768x26x128 x shapeCasts_S3x768x3328_S3x768x26x128 : FVec Ideal S3x768x26x128 .f32) h : FVec Ideal S3x768x26x128 .f32)
      shapeCasts_S3x768x26x128_S3x768x3328 (ix3 ⟨r.val / 768, by omega⟩ ⟨r.val % 768, Nat.mod_lt _ (by norm_num)⟩ j) := by
    refine shapeCast_apply _ _ _ _ ?_
    rw [Shape.rowMajor_val_three, Shape.rowMajor_val_two]
    show (r.val / 768 * 768 + r.val % 768) * 3328 + j.val = r.val * 3328 + j.val
    omega
  rw [h1]
  refine (shapeCast_apply _ _ _ (ix4 ⟨r.val / 768, by omega⟩ ⟨r.val % 768, Nat.mod_lt _ (by norm_num)⟩ ⟨j.val / 128, by omega⟩
    ⟨j.val % 128, Nat.mod_lt _ (by norm_num)⟩) ?_).trans ?_
  · rw [Shape.rowMajor_val_three, Shape.rowMajor_val_four]
    show ((r.val / 768 * 768 + r.val % 768) * 26 + j.val / 128) * 128 + j.val % 128 = (r.val / 768 * 768 + r.val % 768) * 3328 + j.val
    omega
  rw [refDot_apply]
  refine Finset.sum_congr rfl fun i _ => ?_
  refine congrArg (· * h (ix2 i ⟨j.val % 128, Nat.mod_lt _ (by norm_num)⟩)) ?_
  refine Eq.trans ?_ (rows_apply x r _).symm
  refine shapeCast_apply _ _ _ _ ?_
  rw [Shape.rowMajor_val_three, Shape.rowMajor_val_four]
  show (r.val / 768 * 768 + r.val % 768) * 3328 + (128 * (j.val / 128) + i.val)
    = ((r.val / 768 * 768 + r.val % 768) * 26 + j.val / 128) * 128 + i.val
  omega

/-! ## The array the quantiser reads, one host line at a time -/

variable (m : (ℓ : Loc nD τ sig) → Buf (Elt Ideal) ℓ) (c : Dev nD)

theorem entry_cst : V m c main_cst = refTable := by
  show StableHlo.after hostOps0 (fun b => m (c, b)) (Proc.devRef .tc main_cst) = _
  after_results
  rfl

theorem entry_v1 : V m c main_v1 = shapeCast S3x768x26x128 (m ((c : Thread nD τ).loc main_arg0)) shapeCasts_S3x768x3328_S3x768x26x128 := by
  show StableHlo.after hostOps0 (fun b => m (c, b)) (Proc.devRef .tc main_v1) = _
  after_results
  rfl

theorem entry_v2 : V m c main_v2 = Host.dotGeneral (F := Ideal) (φ₁ := .f32) (φ₂ := .f32)
    dot_S3x768x26x128_S128x128_S3x768x26x128_3_0_012_1_n_n none (V m c main_v1) (V m c main_cst) := by
  have e1 : V m c main_v1 = StableHlo.after hostOps0 (fun b => m (c, b)) (Proc.devRef .tc main_v1) := rfl
  have e2 : V m c main_cst = StableHlo.after hostOps0 (fun b => m (c, b)) (Proc.devRef .tc main_cst) := rfl
  show StableHlo.after hostOps0 (fun b => m (c, b)) (Proc.devRef .tc main_v2) = _
  rw [e1, e2]
  after_results

/-- A reshape line's value, between buffers of one element type. -/
theorem cast_v3 (D : S3x768x26x128.Idx → EReal) :
    (fun i => (rfl : main_v2.ty.elt = main_v3.ty.elt) ▸ shapeCast main_v3.ty.shape (D : main_v2.ty.Contents (Elt Ideal))
      shapeCasts_S3x768x26x128_S3x768x3328 i : main_v3.ty.Contents (Elt Ideal))
      = shapeCast S3x768x3328 D shapeCasts_S3x768x26x128_S3x768x3328 := rfl

theorem cast_v4 (D : S3x768x3328.Idx → EReal) :
    (fun i => (rfl : main_v3.ty.elt = main_v4.ty.elt) ▸ shapeCast main_v4.ty.shape (D : main_v3.ty.Contents (Elt Ideal))
      shapeCasts_S3x768x3328_S2304x3328 i : main_v4.ty.Contents (Elt Ideal))
      = shapeCast S2304x3328 D shapeCasts_S3x768x3328_S2304x3328 := rfl

theorem entry_v3 : V m c main_v3 = shapeCast S3x768x3328 (V m c main_v2) shapeCasts_S3x768x26x128_S3x768x3328 := by
  have e1 : V m c main_v2 = StableHlo.after hostOps0 (fun b => m (c, b)) (Proc.devRef .tc main_v2) := rfl
  refine Eq.trans ?_ (cast_v3 _)
  rw [e1]
  show StableHlo.after hostOps0 (fun b => m (c, b)) (Proc.devRef .tc main_v3) = _
  after_results

theorem entry_v4 : V m c main_v4 = shapeCast S2304x3328 (V m c main_v3) shapeCasts_S3x768x3328_S2304x3328 := by
  have e1 : V m c main_v3 = StableHlo.after hostOps0 (fun b => m (c, b)) (Proc.devRef .tc main_v3) := rfl
  refine Eq.trans ?_ (cast_v4 _)
  rw [e1]
  show StableHlo.after hostOps0 (fun b => m (c, b)) (Proc.devRef .tc main_v4) = _
  after_results

/-- The array the quantiser reads: the rotated rows of the argument. -/
theorem ref_entry : V m c main_v4 = rotated (m ((c : Thread nD τ).loc main_arg0)) refTable := by
  rw [entry_v4, entry_v3, entry_v2, entry_v1, entry_cst]
  unfold rotated
  rfl

end Cert.Quarot

end
-- ==== Proof.RefQuant.lean ====
/- The reference's quantiser: its two result arrays are the codes and the scales of the rows it reads. -/
module

public import proofs.«01_k».proof.Proof.RefRotation
public import proofs.«01_k».proof.Proof.Tile

@[expose] public section

noncomputable section

namespace Cert.Quarot

open Idealize.ShloMosaic Idealize.ShloMosaic.ValueIdx Idealize.ShloMosaic.TcCoe Idealize.SL.Sem
open Cert.ReferenceIdeal Cert.ReferenceIdeal.Gen

/-- All codes of the rows `v`. -/
def refCodes (v : S2304x3328.Idx → EReal) : S2304x3328.Idx → BitVec 8 := fun i => rowCode (fun k : Fin 3328 => v (ix2 (i 0) k)) (i 1)

/-- All scales of the rows `v`. -/
def refScales (v : S2304x3328.Idx → EReal) : S2304x1.Idx → EReal := fun i => rowScale fun k : Fin 3328 => v (ix2 (i 0) k)

/-! ## The stored values -/

theorem ref_pay1 (v : FVec Ideal S2304x3328 .f32) : k0_pay1 (F := Ideal) v = v := Idealize.ShloMosaic.shapeCast_self _ _

/-- The row maxima, as a column. -/
theorem ref_max (v : FVec Ideal S2304x3328 .f32) (r : Fin 2304) (z : Fin 1) :
    shapeCast S2304x1 (multiReduction .maximumf [1] S2304 (absf (F := Ideal) (φ := .f32) v) 0xFF800000#32 reduces_S2304x3328_S2304 (.inl rfl) rfl)
      shapeCasts_S2304_S2304x1 (ix2 r z) = rowSup fun k : Fin 3328 => v (ix2 r k) :=
  (shapeCast_a_a1_apply _ shapeCasts_S2304_S2304x1 r z).trans (rowMax_apply v reduces_S2304x3328_S2304 (.inl rfl) rfl r)

/-- The scale's line of a column of maxima. -/
def scaleCol (a : FVec Ideal S2304x1 .f32) : FVec Ideal S2304x1 .f32 :=
  select (cmpf .oeq a (broadcast S2304x1 (Scalar.ofBits .f32 0x00000000#32))) (broadcast S2304x1 (Scalar.ofBits (F := Ideal) .f32 0x3F800000#32))
    (mulf a (broadcast S2304x1 (Scalar.ofBits .f32 0x3C010204#32)))

theorem scaleCol_apply (a : FVec Ideal S2304x1 .f32) (i : S2304x1.Idx) : scaleCol a i = scaleOf (a i) := rfl

theorem ref_pay2_eq (v : FVec Ideal S2304x3328 .f32) : k0_pay2 (F := Ideal) v = scaleCol (shapeCast S2304x1
    (multiReduction .maximumf [1] S2304 (absf (F := Ideal) (φ := .f32) v) 0xFF800000#32 reduces_S2304x3328_S2304 (.inl rfl) rfl)
      shapeCasts_S2304_S2304x1) := by
  unfold k0_pay2 scaleCol
  rw [ref_pay1]

theorem ref_pay2 (v : FVec Ideal S2304x3328 .f32) (r : Fin 2304) (z : Fin 1) :
    k0_pay2 (F := Ideal) v (ix2 r z) = rowScale fun k : Fin 3328 => v (ix2 r k) := by
  rw [ref_pay2_eq, scaleCol_apply, ref_max]
  unfold rowScale
  with_reducible rfl

/-- The codes' line of the rows and their scales. -/
def codeArr (v b : FVec Ideal S2304x3328 .f32) : IVec S2304x3328 8 :=
  fptosi 8 (minimumf (broadcast S2304x3328 (Scalar.ofBits .f32 0x42FE0000#32))
    (maximumf (broadcast S2304x3328 (Scalar.ofBits .f32 0xC2FE0000#32)) (roundeven (divf v b))))

theorem codeArr_apply (v b : FVec Ideal S2304x3328 .f32) (i : S2304x3328.Idx) :
    codeArr v b i = codeOf (FloatOps.divf (F := Ideal) (φ := .f32) (v i) (b i)) := rfl

theorem ref_pay3_eq (v : FVec Ideal S2304x3328 .f32) :
    k0_pay3 (F := Ideal) v = codeArr v (broadcastTo S2304x3328 (k0_pay2 (F := Ideal) v) broadcasts_S2304x1_S2304x3328) := by
  unfold k0_pay3 codeArr
  rw [ref_pay1]

theorem ref_pay3 (v : FVec Ideal S2304x3328 .f32) (r : Fin 2304) (j : Fin 3328) :
    k0_pay3 (F := Ideal) v (ix2 r j) = rowCode (fun k : Fin 3328 => v (ix2 r k)) j := by
  have hb : broadcastTo S2304x3328 (k0_pay2 (F := Ideal) v) broadcasts_S2304x1_S2304x3328 (ix2 r j) = rowScale fun k : Fin 3328 => v (ix2 r k) :=
    (broadcastTo_apply _ _ _ (ix2 r 0) (fun a => by
      match a with
      | ⟨0, _⟩ => rfl
      | ⟨1, _⟩ => rfl)).trans (ref_pay2 v r 0)
  rw [ref_pay3_eq, codeArr_apply, hb]
  unfold rowCode
  with_reducible rfl

theorem zeros2 : (![0, 0] : Fin 2 → Nat) = fun _ => 0 := funext fun a => by fin_cases a <;> rfl

theorem ref_out1 (v : FVec Ideal S2304x3328 .f32) : out0_1 (F := Ideal) v = refCodes v := by
  unfold out0_1
  rw [View.canon_unit_zero zeros2, View.ld_unit_zero zeros2]
  funext i
  obtain ⟨r, j, rfl⟩ : ∃ (r : Fin 2304) (j : Fin 3328), i = (ix2 r j : S2304x3328.Idx) := ⟨i 0, i 1, eq_ix2 i⟩
  exact ref_pay3 v r j

theorem ref_out2 (v : FVec Ideal S2304x3328 .f32) : out0_2 (F := Ideal) v = refScales v := by
  unfold out0_2
  rw [View.canon_unit_zero zeros2, View.ld_unit_zero zeros2]
  funext i
  obtain ⟨r, j, rfl⟩ : ∃ (r : Fin 2304) (j : Fin 1), i = (ix2 r j : S2304x1.Idx) := ⟨i 0, i 1, eq_ix2 i⟩
  exact ref_pay2 v r j

/-! ## The arrays after the quantiser: each window is its whole array -/

theorem refIdx0 : ∀ t : Fin cfg0.N, win0_0.index t (0 : Fin 2) = 0 ∧ win0_0.index t (1 : Fin 2) = 0 := (by decide +kernel : ∀ t : Fin grid0.N, _)
theorem refIdx1 : ∀ t : Fin cfg0.N, win0_1.index t (0 : Fin 2) = 0 ∧ win0_1.index t (1 : Fin 2) = 0 := (by decide +kernel : ∀ t : Fin grid0.N, _)
theorem refIdx2 : ∀ t : Fin cfg0.N, win0_2.index t (0 : Fin 2) = 0 ∧ win0_2.index t (1 : Fin 2) = 0 := (by decide +kernel : ∀ t : Fin grid0.N, _)

theorem refEmb0 (t : Fin cfg0.N) (j : S2304x3328.Idx) : ((cfg0.win 0).blk t).view.emb j = j := by
  obtain ⟨e0, e1⟩ := refIdx0 t
  funext a; apply Fin.ext
  match a with
  | ⟨0, _⟩ => show win0_0.index t (0 : Fin 2) * 2304 + 1 * (j 0).val = (j 0).val; omega
  | ⟨1, _⟩ => show win0_0.index t (1 : Fin 2) * 3328 + 1 * (j 1).val = (j 1).val; omega

theorem refEmb1 (t : Fin cfg0.N) (j : S2304x3328.Idx) : ((cfg0.win 1).blk t).view.emb j = j := by
  obtain ⟨e0, e1⟩ := refIdx1 t
  funext a; apply Fin.ext
  match a with
  | ⟨0, _⟩ => show win0_1.index t (0 : Fin 2) * 2304 + 1 * (j 0).val = (j 0).val; omega
  | ⟨1, _⟩ => show win0_1.index t (1 : Fin 2) * 3328 + 1 * (j 1).val = (j 1).val; omega

theorem refEmb2 (t : Fin cfg0.N) (j : S2304x1.Idx) : ((cfg0.win 2).blk t).view.emb j = j := by
  obtain ⟨e0, e1⟩ := refIdx2 t
  funext a; apply Fin.ext
  match a with
  | ⟨0, _⟩ => show win0_2.index t (0 : Fin 2) * 2304 + 1 * (j 0).val = (j 0).val; omega
  | ⟨1, _⟩ => show win0_2.index t (1 : Fin 2) * 1 + 1 * (j 1).val = (j 1).val; omega

variable (m : (ℓ : Loc nD τ sig) → Buf (Elt Ideal) ℓ) (c : Dev nD)

theorem ref_iblk0 (t : Fin cfg0.N) : iblk m c 0 t = V m c main_v4 := by
  funext j; show V m c main_v4 (((cfg0.win 0).blk t).view.emb j) = V m c main_v4 j; rw [refEmb0]

theorem refCut1 (t : Fin cfg0.N) (X : Vec Ideal S2304x3328 .i8) :
    (cfg0.win 1).cut (grid0.coords t) X = ((cfg0.win 1).blk t).view.read (Elt Ideal) X := by
  funext j
  show X j = X (((cfg0.win 1).blk t).view.emb j)
  rw [refEmb1]

theorem refCut2 (t : Fin cfg0.N) (X : Vec Ideal S2304x1 .f32) :
    (cfg0.win 2).cut (grid0.coords t) X = ((cfg0.win 2).blk t).view.read (Elt Ideal) X := by
  funext j
  show X j = X (((cfg0.win 2).blk t).view.emb j)
  rw [refEmb2]

theorem ref_flushed1 (t : Fin cfg0.N) : (dats m 0 c).flushed 1 t = ((cfg0.win 1).blk t).view.read (Elt Ideal) (refCodes (V m c main_v4)) := by
  show (cfg0.win 1).cut (grid0.coords t) ((dats m 0 c).after 1 t) = _
  rw [after0_1, ref_out1, ref_iblk0]
  exact refCut1 t _

theorem ref_flushed2 (t : Fin cfg0.N) : (dats m 0 c).flushed 2 t = ((cfg0.win 2).blk t).view.read (Elt Ideal) (refScales (V m c main_v4)) := by
  show (cfg0.win 2).cut (grid0.coords t) ((dats m 0 c).after 2 t) = _
  rw [after0_2, ref_out2, ref_iblk0]
  exact refCut2 t _

theorem ref_final1 : (dats m 0 c).arrAt 1 cfg0.N = refCodes (V m c main_v4) :=
  (dats m 0 c).arrAt_eq_of_cover 1 _ (fun t _ => ref_flushed1 m c t) fun i =>
    ⟨(⟨0, by decide⟩ : Fin cfg0.N), flush0_1 _, by
      have h := ((cfg0.win 1).blk (⟨0, by decide⟩ : Fin cfg0.N)).view.emb_mem_set i; rwa [refEmb1] at h⟩

theorem ref_final2 : (dats m 0 c).arrAt 2 cfg0.N = refScales (V m c main_v4) :=
  (dats m 0 c).arrAt_eq_of_cover 2 _ (fun t _ => ref_flushed2 m c t) fun i =>
    ⟨(⟨0, by decide⟩ : Fin cfg0.N), flush0_2 _, by
      have h := ((cfg0.win 2).blk (⟨0, by decide⟩ : Fin cfg0.N)).view.emb_mem_set i; rwa [refEmb2] at h⟩

end Cert.Quarot

end
-- ==== Proof.RefTail.lean ====
/- The reference's lines after its quantiser: the integer products summed as 32-bit words, then the two scales. -/
module

public import proofs.«01_k».proof.Proof.RefQuant

@[expose] public section

noncomputable section

namespace Cert.Quarot

open Idealize.ShloMosaic Idealize.ShloMosaic.ValueIdx Idealize.ShloMosaic.TcCoe Idealize.SL.Sem
open Cert.ReferenceIdeal Cert.ReferenceIdeal.Gen

/-! ## The lines as functions of what they read -/

/-- The codes, widened and repeated along the output columns. -/
def wideCodes (q : S2304x3328.Idx → BitVec 8) : IVec S2304x3328x1280 32 :=
  broadcastInDim S2304x3328x1280 ![0, 1, 2] bcast_S2304x3328x1_S2304x3328x1280_0_1_2
    (broadcastInDim S2304x3328x1 ![0, 1] bcast_S2304x3328_S2304x3328x1_0_1 (extsi 32 q natLt_8_32))

/-- The weights, widened and repeated along the rows. -/
def wideWeights (w : S3328x1280.Idx → BitVec 8) : IVec S2304x3328x1280 32 :=
  broadcastInDim S2304x3328x1280 ![0, 1, 2] bcast_S1x3328x1280_S2304x3328x1280_0_1_2
    (broadcastInDim S1x3328x1280 ![1, 2] bcast_S3328x1280_S1x3328x1280_1_2 (extsi 32 w natLt_8_32))

/-- The sums of the products. -/
def accArr (q : S2304x3328.Idx → BitVec 8) (w : S3328x1280.Idx → BitVec 8) : IVec S2304x1280 32 :=
  Host.reduce IntOp.addi (muli (wideCodes q) (wideWeights w)) (constantI S_ 32 0#32) reducesTo_S2304x3328x1280_S2304x1280_d1 h_S_

/-- The row scales, repeated along the output columns. -/
def rowScales (sc : FVec Ideal S2304x1 .f32) : FVec Ideal S2304x1280 .f32 :=
  broadcastInDim S2304x1280 ![0, 1] bcast_S2304x1_S2304x1280_0_1 sc

/-- The column scales, repeated along the rows. -/
def colScales (sw : FVec Ideal S1280 .f32) : FVec Ideal S2304x1280 .f32 :=
  broadcastInDim S2304x1280 ![0, 1] bcast_S1x1280_S2304x1280_0_1 (broadcastInDim S1x1280 ![1] bcast_S1280_S1x1280_1 sw)

/-- The outputs from the sums and the scales. -/
def scaled (acc : IVec S2304x1280 32) (a b : FVec Ideal S2304x1280 .f32) : FVec Ideal S2304x1280 .bf16 :=
  truncf (F := Ideal) .bf16 (mulf (mulf (sitofp (F := Ideal) .f32 acc) a) b) bitsLt_bf16_f32

/-- The last line's value, from any contents before the lines. -/
theorem tail_eq (U : Valuation τ sig (Elt Ideal)) : StableHlo.after hostOps1 U (Proc.devRef .tc main_v20)
    = scaled (accArr (U (Proc.devRef .tc main_v5_0)) (U (Proc.devRef .tc main_arg1))) (rowScales (U (Proc.devRef .tc main_v5_1)))
        (colScales (U (Proc.devRef .tc main_arg2))) := by
  unfold scaled accArr rowScales colScales wideCodes wideWeights
  after_results

/-! ## Their entries -/

theorem wideCodes_apply (q : S2304x3328.Idx → BitVec 8) (r : Fin 2304) (k : Fin 3328) (o : Fin 1280) :
    wideCodes q (ix3 r k o) = (q (ix2 r k)).signExtend 32 := by
  unfold wideCodes
  refine (broadcastInDim_apply _ _ _ _ (ix3 r k 0) ?_).trans ((broadcastInDim_apply _ _ _ _ (ix2 r k) ?_).trans rfl)
  · intro a
    match a with
    | ⟨0, _⟩ => rfl
    | ⟨1, _⟩ => rfl
    | ⟨2, _⟩ => rfl
  · intro a
    match a with
    | ⟨0, _⟩ => rfl
    | ⟨1, _⟩ => rfl

theorem wideWeights_apply (w : S3328x1280.Idx → BitVec 8) (r : Fin 2304) (k : Fin 3328) (o : Fin 1280) :
    wideWeights w (ix3 r k o) = (w (ix2 k o)).signExtend 32 := by
  unfold wideWeights
  refine (broadcastInDim_apply _ _ _ _ (ix3 0 k o) ?_).trans ((broadcastInDim_apply _ _ _ _ (ix2 k o) ?_).trans rfl)
  · intro a
    match a with
    | ⟨0, _⟩ => rfl
    | ⟨1, _⟩ => rfl
    | ⟨2, _⟩ => rfl
  · intro a
    match a with
    | ⟨0, _⟩ => rfl
    | ⟨1, _⟩ => rfl

/-- A sum of 32-bit products of widened words is the word of the exact sum. -/
theorem fold_addi {n : Nat} (a b : Fin n → BitVec 8) :
    (Finset.univ : Finset (Fin n)).fold IntOp.addi (0#32) (fun k => (a k).signExtend 32 * (b k).signExtend 32)
      = BitVec.ofInt 32 (∑ k, (a k).toInt * (b k).toInt) := by
  generalize (Finset.univ : Finset (Fin n)) = s
  induction s using Finset.induction_on with
  | empty => simp
  | insert k s hk ih =>
    rw [Finset.fold_insert hk, Finset.sum_insert hk, ih, BitVec.ofInt_add, BitVec.ofInt_mul]
    rfl

theorem reduces_mid : S2304x3328x1280.Reduces [1] S2304x1280 := by decide

theorem lift_mid (r : Fin 2304) (k : Fin 3328) (o : Fin 1280) : reduces_mid.lift (ix2 r o : S2304x1280.Idx) k = (ix3 r k o : S2304x3328x1280.Idx) := by
  funext a; apply Fin.ext
  match a with
  | ⟨0, _⟩ => rfl
  | ⟨1, _⟩ => rfl
  | ⟨2, _⟩ => rfl

/-- A sum of products is the word of the exact integer product. -/
theorem accArr_apply (q : S2304x3328.Idx → BitVec 8) (w : S3328x1280.Idx → BitVec 8) (r : Fin 2304) (o : Fin 1280) :
    accArr q w (ix2 r o) = BitVec.ofInt 32 (∑ k : Fin 3328, (q (ix2 r k)).toInt * (w (ix2 k o)).toInt) := by
  unfold accArr
  refine (Host.reduce_eq_fold_single IntOp.addi _ _ _ reduces_mid _ _).trans ?_
  refine Eq.trans ?_ (fold_addi (fun k : Fin 3328 => q (ix2 r k)) (fun k : Fin 3328 => w (ix2 k o)))
  refine congrArg (fun f : Fin 3328 → BitVec 32 => (Finset.univ : Finset (Fin 3328)).fold IntOp.addi (0#32) f) (funext fun k : Fin 3328 => ?_)
  show wideCodes q (reduces_mid.lift (ix2 r o) k) * wideWeights w (reduces_mid.lift (ix2 r o) k) = _
  rw [lift_mid, wideCodes_apply, wideWeights_apply]

theorem rowScales_apply (sc : FVec Ideal S2304x1 .f32) (r : Fin 2304) (o : Fin 1280) : rowScales sc (ix2 r o) = sc (ix2 r 0) := by
  unfold rowScales
  refine broadcastInDim_apply _ _ _ _ (ix2 r 0) ?_
  intro a
  match a with
  | ⟨0, _⟩ => rfl
  | ⟨1, _⟩ => rfl

theorem colScales_apply (sw : FVec Ideal S1280 .f32) (r : Fin 2304) (o : Fin 1280) : colScales sw (ix2 r o) = srow sw (ix2 0 o) := by
  unfold colScales
  refine (broadcastInDim_apply _ _ _ _ (ix2 0 o) ?_).trans ((broadcastInDim_apply _ _ _ _ (ix1 o) ?_).trans ?_)
  · intro a
    match a with
    | ⟨0, _⟩ => rfl
    | ⟨1, _⟩ => rfl
  · intro a
    match a with
    | ⟨0, _⟩ => rfl
  · refine (shapeCast_apply _ _ _ _ ?_).symm
    rw [Shape.rowMajor_val_one, Shape.rowMajor_val_two]
    show o.val = 0 * 1280 + o.val
    omega

theorem scaled_apply (acc : IVec S2304x1280 32) (a b : FVec Ideal S2304x1280 .f32) (i : S2304x1280.Idx) :
    scaled acc a b i = FloatOps.mulf (F := Ideal) (φ := .f32) (FloatOps.mulf (F := Ideal) (φ := .f32) (FloatOps.sitofp .f32 (acc i)) (a i)) (b i) := rfl

theorem refCodes_apply (v : S2304x3328.Idx → EReal) (r : Fin 2304) (k : Fin 3328) :
    refCodes v (ix2 r k) = rowCode (fun k : Fin 3328 => v (ix2 r k)) k := rfl

theorem refScales_apply (v : S2304x3328.Idx → EReal) (r : Fin 2304) :
    refScales v (ix2 r 0) = rowScale fun k : Fin 3328 => v (ix2 r k) := rfl

/-- An output entry, from the codes and the scales of the rows `v`. -/
theorem refOut_apply (v : S2304x3328.Idx → EReal) (w : S3328x1280.Idx → BitVec 8) (sw : FVec Ideal S1280 .f32) (r : Fin 2304) (o : Fin 1280) :
    scaled (accArr (refCodes v) w) (rowScales (refScales v)) (colScales sw) (ix2 r o)
      = rowOut (fun k : Fin 3328 => v (ix2 r k)) (fun k => w (ix2 k o)) (srow sw (ix2 0 o)) := by
  rw [scaled_apply, accArr_apply, rowScales_apply, colScales_apply, refScales_apply]
  unfold rowOut rowAcc
  simp only [refCodes_apply]

end Cert.Quarot

end
-- ==== Proof.RefRun.lean ====
/- What the reference's run leaves in its three results: the kernel's functions of the same arguments. -/
module

public import proofs.«01_k».proof.Proof.RefTail

@[expose] public section

noncomputable section

namespace Cert.Quarot

open Idealize.ShloMosaic Idealize.ShloMosaic.ValueIdx Idealize.ShloMosaic.TcCoe Idealize.SL.Sem
open Cert.ReferenceIdeal Cert.ReferenceIdeal.Gen

/-! ## The reference's arrays are the kernel's -/

/-- The two rotations of a row agree. -/
theorem rotated_row (x : S3x768x3328.Idx → EReal) (r : Fin 2304) :
    (fun k : Fin 3328 => rotated x refTable (ix2 r k)) = krot (fun j => rows x (ix2 r j)) kerTable :=
  funext fun k => (rotated_apply x refTable r k).trans (krot_eq _ k).symm

theorem refCodes_rotated (x : S3x768x3328.Idx → EReal) : refCodes (rotated x refTable) = codes (rows x) kerTable := by
  funext i
  obtain ⟨r, j, rfl⟩ : ∃ (r : Fin 2304) (j : Fin 3328), i = (ix2 r j : S2304x3328.Idx) := ⟨i 0, i 1, eq_ix2 i⟩
  rw [refCodes_apply, rotated_row]
  rfl

theorem refScales_rotated (x : S3x768x3328.Idx → EReal) : refScales (rotated x refTable) = scales (rows x) kerTable := by
  funext i
  obtain ⟨r, j, rfl⟩ : ∃ (r : Fin 2304) (j : Fin 1), i = (ix2 r j : S2304x1.Idx) := ⟨i 0, i 1, eq_ix2 i⟩
  obtain rfl : j = 0 := Subsingleton.elim _ _
  rw [refScales_apply, rotated_row]
  rfl

theorem refOuts_rotated (x : S3x768x3328.Idx → EReal) (w : S3328x1280.Idx → BitVec 8) (s : S1280.Idx → EReal) :
    scaled (accArr (refCodes (rotated x refTable)) w) (rowScales (refScales (rotated x refTable))) (colScales s)
      = outs (rows x) kerTable w (srow s) := by
  funext i
  obtain ⟨r, o, rfl⟩ : ∃ (r : Fin 2304) (o : Fin 1280), i = (ix2 r o : S2304x1280.Idx) := ⟨i 0, i 1, eq_ix2 i⟩
  refine (refOut_apply _ w s r o).trans ?_
  rw [rotated_row]
  rfl

/-! ## The run -/

variable (m : (ℓ : Loc nD τ sig) → Buf (Elt Ideal) ℓ)

/-- The last line's result, after the quantiser and the lines after it. -/
theorem ref_tail (c : Dev nD) : Pipeline.afterTail₀ cfgs (dats m) 0 (V0 m) [hostOps1] c main_v20
    = outs (rows (m ((c : Thread nD τ).loc main_arg0))) kerTable (m ((c : Thread nD τ).loc main_arg1))
        (srow (m ((c : Thread nD τ).loc main_arg2))) := by
  have h : Pipeline.afterTail₀ cfgs (dats m) 0 (V0 m) [hostOps1] c main_v20
      = StableHlo.after hostOps1 (Pipeline.withArrays spec0 c (V0 m c) fun w => (dats m 0 c).arrAt w cfg0.N) (Proc.devRef .tc main_v20) := rfl
  have h1 : Pipeline.withArrays spec0 c (V0 m c) (fun w => (dats m 0 c).arrAt w cfg0.N) (Proc.devRef .tc main_v5_0) = refCodes (V m c main_v4) :=
    (Pipeline.withArrays_arr spec0 launch0.win.arr_inj c _ _ 1).trans (ref_final1 m c)
  have h2 : Pipeline.withArrays spec0 c (V0 m c) (fun w => (dats m 0 c).arrAt w cfg0.N) (Proc.devRef .tc main_v5_1) = refScales (V m c main_v4) :=
    (Pipeline.withArrays_arr spec0 launch0.win.arr_inj c _ _ 2).trans (ref_final2 m c)
  have h3 : Pipeline.withArrays spec0 c (V0 m c) (fun w => (dats m 0 c).arrAt w cfg0.N) (Proc.devRef .tc main_arg1)
      = m ((c : Thread nD τ).loc main_arg1) := (Pipeline.withArrays_of_ne spec0 c _ _ main_arg1 (by decide)).trans (V_main_arg1 m c)
  have h4 : Pipeline.withArrays spec0 c (V0 m c) (fun w => (dats m 0 c).arrAt w cfg0.N) (Proc.devRef .tc main_arg2)
      = m ((c : Thread nD τ).loc main_arg2) := (Pipeline.withArrays_of_ne spec0 c _ _ main_arg2 (by decide)).trans (V_main_arg2 m c)
  rw [h, tail_eq, h1, h2, h3, h4, ref_entry]
  exact refOuts_rotated _ _ _

/-- The reference runs, its results are the outputs, the codes and the scales of its arguments, and its arguments are unchanged. -/
theorem reference_run (ρ : Dev nD → PrngReg) :
    θ_run defs (onTc (τ := τ) (main (F := Ideal))) ⟨m, fun _ => 0, ρ⟩ fun r => ∀ c : Dev nD,
      r.2.mem ((c : Thread nD τ).loc main_v20) = outs (rows (m ((c : Thread nD τ).loc main_arg0))) kerTable
          (m ((c : Thread nD τ).loc main_arg1)) (srow (m ((c : Thread nD τ).loc main_arg2)))
      ∧ r.2.mem ((c : Thread nD τ).loc main_v5_0) = codes (rows (m ((c : Thread nD τ).loc main_arg0))) kerTable
      ∧ r.2.mem ((c : Thread nD τ).loc main_v5_1) = scales (rows (m ((c : Thread nD τ).loc main_arg0))) kerTable
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v20 (Pipeline.mem_restRefs_of main_v20 (by decide) (by decide))).trans (ref_tail m c),
      ((h c).1 1).trans ((ref_final1 m c).trans ((congrArg refCodes (ref_entry m c)).trans (refCodes_rotated _))),
      ((h c).1 2).trans ((ref_final2 m c).trans ((congrArg refScales (ref_entry m c)).trans (refScales_rotated _))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Quarot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.ShloMosaic.TcCoe Idealize.SL.Sem Cert.Quarot

/-- The kernel's results and the reference's are equal: both are the outputs, the codes and the scales of the arguments. -/
theorem algebraic : Cert.algebraic_KernelIdeal_ReferenceIdeal := fun m g m' g' _ hargs =>
  ⟨fun c => outs (rows (m ((c.tc : Thread Cert.KernelIdeal.nD Cert.KernelIdeal.τ).loc Cert.KernelIdeal.main_arg0))) kerTable
      (m ((c.tc : Thread Cert.KernelIdeal.nD Cert.KernelIdeal.τ).loc Cert.KernelIdeal.main_arg1))
      (srow (m ((c.tc : Thread Cert.KernelIdeal.nD Cert.KernelIdeal.τ).loc Cert.KernelIdeal.main_arg2))),
    fun c => codes (rows (m ((c.tc : Thread Cert.KernelIdeal.nD Cert.KernelIdeal.τ).loc Cert.KernelIdeal.main_arg0))) kerTable,
    fun c => scales (rows (m ((c.tc : Thread Cert.KernelIdeal.nD Cert.KernelIdeal.τ).loc Cert.KernelIdeal.main_arg0))) kerTable,
    kernel_run m g,
    (θ_run Cert.ReferenceIdeal.defs _ _).mono (fun r h c => by
      obtain ⟨e0, e1, e2⟩ := hargs c
      obtain ⟨h0, h1, h2, ha⟩ := h c
      refine ⟨h0.trans ?_, h1.trans ?_, h2.trans ?_, ha⟩
      · exact (congrArg (fun x => outs (rows x) kerTable _ _) e0).trans
          (congrArg₂ (fun w s => outs _ kerTable w (srow s)) e1 e2)
      · exact congrArg (fun x => codes (rows x) kerTable) e0
      · exact congrArg (fun x => scales (rows x) kerTable) e0) (reference_run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
